-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S_ : Shape := ⟨0, ![]⟩

class Facts : Prop where
  bcast_S_S4x2048x1024 : S_.BroadcastsInDim S4x2048x1024 (![] : Fin 0 → Fin S4x2048x1024.rank)
  bcast_S_S1024x4256 : S_.BroadcastsInDim S1024x4256 (![] : Fin 0 → Fin S1024x4256.rank)
  bcast_S_S2176x4 : S_.BroadcastsInDim S2176x4 (![] : Fin 0 → Fin S2176x4.rank)
  bcast_S_S2176 : S_.BroadcastsInDim S2176 (![] : Fin 0 → Fin S2176.rank)
  bcast_S_S32 : S_.BroadcastsInDim S32 (![] : Fin 0 → Fin S32.rank)

variable [Facts]

def fn {F : FTy → Type} [FloatOps F] (main_arg0 : FVec F S4x2048x1024 .f32) (main_arg1 : FVec F S1024x4256 .f32) (main_arg2 : FVec F S2176x4 .f32) (main_arg3 : FVec F S2176 .f32) (main_arg4 : FVec F S32 .f32) (main_arg5 : FVec F S32 .f32) (main_arg6 : FVec F S32 .f32) (main_arg7 : FVec F S2048 .f32) (main_arg8 : FVec F S2048x1024 .f32) : IVec S4x2048x1024 1 × IVec S1024x4256 1 × IVec S2176x4 1 × IVec S2176 1 × IVec S32 1 × IVec S32 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1024x4256 .f32 := Host.absf main_arg1
  let main_cst_0 : FVec F S_ .f32 := constant S_ .f32 0x7F800000#32
  let main_v4 : FVec F S1024x4256 .f32 := broadcastInDim S1024x4256 ![] bcast_S_S1024x4256 main_cst_0
  let main_v5 : IVec S1024x4256 1 := cmpf .olt main_v3 main_v4
  let main_v6 : FVec F S2176x4 .f32 := Host.absf main_arg2
  let main_cst_1 : FVec F S_ .f32 := constant S_ .f32 0x7F800000#32
  let main_v7 : FVec F S2176x4 .f32 := broadcastInDim S2176x4 ![] bcast_S_S2176x4 main_cst_1
  let main_v8 : IVec S2176x4 1 := cmpf .olt main_v6 main_v7
  let main_v9 : FVec F S2176 .f32 := Host.absf main_arg3
  let main_cst_2 : FVec F S_ .f32 := constant S_ .f32 0x7F800000#32
  let main_v10 : FVec F S2176 .f32 := broadcastInDim S2176 ![] bcast_S_S2176 main_cst_2
  let main_v11 : IVec S2176 1 := cmpf .olt main_v9 main_v10
  let main_v12 : FVec F S32 .f32 := Host.absf main_arg4
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : FVec F S32 .f32 := Host.absf main_arg5
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  (main_v2, main_v5, main_v8, main_v11, main_v14, main_v17)
-- ==== Kernel.lean ====
abbrev S4x2048x1024 : Shape := ⟨3, ![4, 2048, 1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S8192x1024 : Shape := ⟨2, ![8192, 1024]⟩
abbrev S4x2176 : Shape := ⟨2, ![4, 2176]⟩
abbrev S1x2176 : Shape := ⟨2, ![1, 2176]⟩
abbrev S1x32 : Shape := ⟨2, ![1, 32]⟩
abbrev S32x32 : Shape := ⟨2, ![32, 32]⟩
abbrev S_ : Shape := ⟨0, ![]⟩
abbrev S1x64 : Shape := ⟨2, ![1, 64]⟩
abbrev S32x1x32x1 : Shape := ⟨4, ![32, 1, 32, 1]⟩
abbrev S1x1x1x64 : Shape := ⟨4, ![1, 1, 1, 64]⟩
abbrev S32x1x32x64 : Shape := ⟨4, ![32, 1, 32, 64]⟩
abbrev S32x2048 : Shape := ⟨2, ![32, 2048]⟩
abbrev S32x64 : Shape := ⟨2, ![32, 64]⟩
abbrev S1x2048 : Shape := ⟨2, ![1, 2048]⟩
abbrev S512x1024 : Shape := ⟨2, ![512, 1024]⟩
abbrev S8x2176 : Shape := ⟨2, ![8, 2176]⟩
abbrev S8x64x256 : Shape := ⟨3, ![8, 64, 256]⟩
abbrev S512x2176 : Shape := ⟨2, ![512, 2176]⟩
abbrev S512x2048 : Shape := ⟨2, ![512, 2048]⟩
abbrev S512x4256 : Shape := ⟨2, ![512, 4256]⟩
abbrev S512x32 : Shape := ⟨2, ![512, 32]⟩
abbrev S3x2176 : Shape := ⟨2, ![3, 2176]⟩
abbrev S509x2176 : Shape := ⟨2, ![509, 2176]⟩
abbrev S2x2176 : Shape := ⟨2, ![2, 2176]⟩
abbrev S510x2176 : Shape := ⟨2, ![510, 2176]⟩
abbrev S511x2176 : Shape := ⟨2, ![511, 2176]⟩
abbrev S64x64 : Shape := ⟨2, ![64, 64]⟩
abbrev S64x32 : Shape := ⟨2, ![64, 32]⟩
abbrev S64x2048 : Shape := ⟨2, ![64, 2048]⟩
abbrev S64x256 : Shape := ⟨2, ![64, 256]⟩
abbrev S1x64x256 : Shape := ⟨3, ![1, 64, 256]⟩
abbrev S1x256 : Shape := ⟨2, ![1, 256]⟩
abbrev S64x1 : Shape := ⟨2, ![64, 1]⟩
abbrev S512 : Shape := ⟨1, ![512]⟩
abbrev S512x1 : Shape := ⟨2, ![512, 1]⟩

abbrev nBuf : Space → Nat
  | .hbm => 39
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x4256, .f32⟩
  | .hbm, ⟨2, _⟩ => ⟨S2176x4, .f32⟩
  | .hbm, ⟨3, _⟩ => ⟨S2176, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S2048x1024, .f32⟩
  | .hbm, ⟨9, _⟩ => ⟨S8192x1024, .f32⟩
  | .hbm, ⟨10, _⟩ => ⟨S1024x4256, .bf16⟩
  | .hbm, ⟨11, _⟩ => ⟨S2048x1024, .bf16⟩
  | .hbm, ⟨12, _⟩ => ⟨S4x2176, .f32⟩
  | .hbm, ⟨13, _⟩ => ⟨S1x2176, .f32⟩
  | .hbm, ⟨14, _⟩ => ⟨S1x32, .f32⟩
  | .hbm, ⟨15, _⟩ => ⟨S32, .f32⟩
  | .hbm, ⟨16, _⟩ => ⟨S32, .f32⟩
  | .hbm, ⟨17, _⟩ => ⟨S1x32, .f32⟩
  | .hbm, ⟨18, _⟩ => ⟨S32x32, .i32⟩
  | .hbm, ⟨19, _⟩ => ⟨S32x32, .i32⟩
  | .hbm, ⟨20, _⟩ => ⟨S_, .i32⟩
  | .hbm, ⟨21, _⟩ => ⟨S32x32, .i32⟩
  | .hbm, ⟨22, _⟩ => ⟨S32x32, .i32⟩
  | .hbm, ⟨23, _⟩ => ⟨S32x32, .i1⟩
  | .hbm, ⟨24, _⟩ => ⟨S32x32, .f32⟩
  | .hbm, ⟨25, _⟩ => ⟨S_, .f32⟩
  | .hbm, ⟨26, _⟩ => ⟨S1x64, .f32⟩
  | .hbm, ⟨27, _⟩ => ⟨S32x1x32x1, .f32⟩
  | .hbm, ⟨28, _⟩ => ⟨S1x1x1x64, .f32⟩
  | .hbm, ⟨29, _⟩ => ⟨S32x1x32x64, .f32⟩
  | .hbm, ⟨30, _⟩ => ⟨S32x1x32x64, .f32⟩
  | .hbm, ⟨31, _⟩ => ⟨S32x1x32x64, .f32⟩
  | .hbm, ⟨32, _⟩ => ⟨S32x2048, .f32⟩
  | .hbm, ⟨33, _⟩ => ⟨S32x2048, .bf16⟩
  | .hbm, ⟨34, _⟩ => ⟨S32x64, .f32⟩
  | .hbm, ⟨35, _⟩ => ⟨S2048, .f32⟩
  | .hbm, ⟨36, _⟩ => ⟨S1x2048, .f32⟩
  | .hbm, ⟨37, _⟩ => ⟨S1x2048, .f32⟩
  | .hbm, ⟨38, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x4256, .bf16⟩
  | .local _ .vmem, ⟨3, _⟩ => ⟨S4x2176, .f32⟩
  | .local _ .vmem, ⟨4, _⟩ => ⟨S1x2176, .f32⟩
  | .local _ .vmem, ⟨5, _⟩ => ⟨S1x32, .f32⟩
  | .local _ .vmem, ⟨6, _⟩ => ⟨S1x32, .f32⟩
  | .local _ .vmem, ⟨7, _⟩ => ⟨S32x2048, .bf16⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S512x1024, .f32⟩
  | .local _ .vmem, ⟨12, _⟩ => ⟨S512x1024, .f32⟩
  | .local _ .vmem, ⟨13, _⟩ => ⟨S8x2176, .f32⟩
  | .local _ .vmem, ⟨14, _⟩ => ⟨S8x64x256, .f32⟩
  | .local _ .vmem, ⟨15, _⟩ => ⟨S512x2176, .f32⟩
  | .local _ .vmem, ⟨16, _⟩ => ⟨S512x2048, .f32⟩
  | .local _ .vmem, ⟨17, _⟩ => ⟨S512x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x2048x1024 : Shape := ⟨3, ![4, 2048, 1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S4x2048x4256 : Shape := ⟨3, ![4, 2048, 4256]⟩
abbrev S4x2048x2048 : Shape := ⟨3, ![4, 2048, 2048]⟩
abbrev S4x2048x2176 : Shape := ⟨3, ![4, 2048, 2176]⟩
abbrev S4x2048x32 : Shape := ⟨3, ![4, 2048, 32]⟩
abbrev S1x1x32 : Shape := ⟨3, ![1, 1, 32]⟩
abbrev S_ : Shape := ⟨0, ![]⟩
abbrev S4x2051x2176 : Shape := ⟨3, ![4, 2051, 2176]⟩
abbrev S2176x1 : Shape := ⟨2, ![2176, 1]⟩
abbrev S1x1x2176 : Shape := ⟨3, ![1, 1, 2176]⟩
abbrev S4x2048x32x64 : Shape := ⟨4, ![4, 2048, 32, 64]⟩
abbrev S4x2048x64 : Shape := ⟨3, ![4, 2048, 64]⟩
abbrev S4x32x64x64 : Shape := ⟨4, ![4, 32, 64, 64]⟩
abbrev S2048x4x32 : Shape := ⟨3, ![2048, 4, 32]⟩
abbrev S2048x4x32x64 : Shape := ⟨4, ![2048, 4, 32, 64]⟩
abbrev S2048x4x64 : Shape := ⟨3, ![2048, 4, 64]⟩
abbrev S2048x4x2048 : Shape := ⟨3, ![2048, 4, 2048]⟩
abbrev S1x4x32 : Shape := ⟨3, ![1, 4, 32]⟩
abbrev S4x32 : Shape := ⟨2, ![4, 32]⟩
abbrev S1x4x32x64 : Shape := ⟨4, ![1, 4, 32, 64]⟩
abbrev S4x32x64 : Shape := ⟨3, ![4, 32, 64]⟩
abbrev S1x4x64 : Shape := ⟨3, ![1, 4, 64]⟩
abbrev S4x64 : Shape := ⟨2, ![4, 64]⟩
abbrev S1x4x2048 : Shape := ⟨3, ![1, 4, 2048]⟩
abbrev S4x2048 : Shape := ⟨2, ![4, 2048]⟩
abbrev S1x32 : Shape := ⟨2, ![1, 32]⟩
abbrev S4x32x1x1 : Shape := ⟨4, ![4, 32, 1, 1]⟩
abbrev S4x32x1 : Shape := ⟨3, ![4, 32, 1]⟩
abbrev S4x32x64x1 : Shape := ⟨4, ![4, 32, 64, 1]⟩
abbrev S4x1x1x64 : Shape := ⟨4, ![4, 1, 1, 64]⟩
abbrev S1x32x1 : Shape := ⟨3, ![1, 32, 1]⟩
abbrev S4 : Shape := ⟨1, ![4]⟩
abbrev S4x1 : Shape := ⟨2, ![4, 1]⟩
abbrev S1x2048 : Shape := ⟨2, ![1, 2048]⟩
abbrev S8192x1024 : Shape := ⟨2, ![8192, 1024]⟩

abbrev nBuf : Space → Nat
  | .hbm => 182
  | .vmem => 0
  | .smem => 0
  | _ => 0

abbrev hbmTy0_0 (i : Nat) : BufTy := match i % 128 with
  | 0 => ⟨S4x2048x1024, .f32⟩
  | 1 => ⟨S1024x4256, .f32⟩
  | 2 => ⟨S2176x4, .f32⟩
  | 3 => ⟨S2176, .f32⟩
  | 4 => ⟨S32, .f32⟩
  | 5 => ⟨S32, .f32⟩
  | 6 => ⟨S32, .f32⟩
  | 7 => ⟨S2048, .f32⟩
  | 8 => ⟨S2048x1024, .f32⟩
  | 9 => ⟨S4x2048x4256, .f32⟩
  | 10 => ⟨S4x2048x2048, .f32⟩
  | 11 => ⟨S4x2048x2176, .f32⟩
  | 12 => ⟨S4x2048x32, .f32⟩
  | 13 => ⟨S1x1x32, .f32⟩
  | 14 => ⟨S4x2048x32, .f32⟩
  | 15 => ⟨S4x2048x32, .f32⟩
  | 16 => ⟨S_, .f32⟩
  | 17 => ⟨S4x2048x32, .f32⟩
  | 18 => ⟨S4x2048x32, .f32⟩
  | 19 => ⟨S4x2048x32, .f32⟩
  | 20 => ⟨S4x2048x32, .f32⟩
  | 21 => ⟨S4x2048x32, .i1⟩
  | 22 => ⟨S4x2048x32, .f32⟩
  | 23 => ⟨S4x2048x32, .f32⟩
  | 24 => ⟨S4x2048x32, .f32⟩
  | 25 => ⟨S4x2048x32, .f32⟩
  | 26 => ⟨S4x2048x32, .f32⟩
  | 27 => ⟨S4x2048x32, .f32⟩
  | 28 => ⟨S4x2048x32, .f32⟩
  | 29 => ⟨S4x2048x32, .f32⟩
  | 30 => ⟨S_, .i32⟩
  | 31 => ⟨S_, .f32⟩
  | 32 => ⟨S4x2051x2176, .f32⟩
  | 33 => ⟨S4x2048x2176, .f32⟩
  | 34 => ⟨S2176x1, .f32⟩
  | 35 => ⟨S2176, .f32⟩
  | 36 => ⟨S1x1x2176, .f32⟩
  | 37 => ⟨S4x2048x2176, .f32⟩
  | 38 => ⟨S4x2048x2176, .f32⟩
  | 39 => ⟨S_, .f32⟩
  | 40 => ⟨S4x2048x2176, .f32⟩
  | 41 => ⟨S4x2048x2176, .f32⟩
  | 42 => ⟨S4x2048x2176, .f32⟩
  | 43 => ⟨S2176x1, .f32⟩
  | 44 => ⟨S2176, .f32⟩
  | 45 => ⟨S1x1x2176, .f32⟩
  | 46 => ⟨S4x2048x2176, .f32⟩
  | 47 => ⟨S4x2048x2176, .f32⟩
  | 48 => ⟨S4x2048x2176, .f32⟩
  | 49 => ⟨S4x2048x2176, .f32⟩
  | 50 => ⟨S2176x1, .f32⟩
  | 51 => ⟨S2176, .f32⟩
  | 52 => ⟨S1x1x2176, .f32⟩
  | 53 => ⟨S4x2048x2176, .f32⟩
  | 54 => ⟨S4x2048x2176, .f32⟩
  | 55 => ⟨S4x2048x2176, .f32⟩
  | 56 => ⟨S4x2048x2176, .f32⟩
  | 57 => ⟨S2176x1, .f32⟩
  | 58 => ⟨S2176, .f32⟩
  | 59 => ⟨S1x1x2176, .f32⟩
  | 60 => ⟨S4x2048x2176, .f32⟩
  | 61 => ⟨S4x2048x2176, .f32⟩
  | 62 => ⟨S4x2048x2176, .f32⟩
  | 63 => ⟨S1x1x2176, .f32⟩
  | 64 => ⟨S4x2048x2176, .f32⟩
  | 65 => ⟨S4x2048x2176, .f32⟩
  | 66 => ⟨S4x2048x2176, .f32⟩
  | 67 => ⟨S4x2048x2176, .f32⟩
  | 68 => ⟨S_, .f32⟩
  | 69 => ⟨S4x2048x2176, .f32⟩
  | 70 => ⟨S4x2048x2176, .f32⟩
  | 71 => ⟨S_, .f32⟩
  | 72 => ⟨S4x2048x2176, .f32⟩
  | 73 => ⟨S4x2048x2176, .f32⟩
  | 74 => ⟨S4x2048x2176, .f32⟩
  | 75 => ⟨S4x2048x2048, .f32⟩
  | 76 => ⟨S4x2048x32x64, .f32⟩
  | 77 => ⟨S4x2048x64, .f32⟩
  | 78 => ⟨S4x2048x64, .f32⟩
  | 79 => ⟨S32, .f32⟩
  | 80 => ⟨S32, .f32⟩
  | 81 => ⟨S_, .f32⟩
  | 82 => ⟨S4x32x64x64, .f32⟩
  | 83 => ⟨S2048x4x32, .f32⟩
  | 84 => ⟨S2048x4x32x64, .f32⟩
  | 85 => ⟨S2048x4x64, .f32⟩
  | 86 => ⟨S2048x4x64, .f32⟩
  | 87 => ⟨S2048x4x2048, .f32⟩
  | 88 => ⟨S_, .f32⟩
  | 89 => ⟨S2048x4x2048, .f32⟩
  | 90 => ⟨S_, .i32⟩
  | 91 => ⟨S2048x4x32, .f32⟩
  | 92 => ⟨S2048x4x32x64, .f32⟩
  | 93 => ⟨S2048x4x64, .f32⟩
  | 94 => ⟨S2048x4x64, .f32⟩
  | 95 => ⟨S2048x4x2048, .f32⟩
  | 96 => ⟨S32, .f32⟩
  | 97 => ⟨S32, .f32⟩
  | 98 => ⟨S2048, .f32⟩
  | 99 => ⟨S_, .i32⟩
  | 100 => ⟨S4x32x64x64, .f32⟩
  | 101 => ⟨S2048x4x2048, .f32⟩
  | 102 => ⟨S_, .i32⟩
  | 103 => ⟨S_, .i1⟩
  | 104 => ⟨S_, .i32⟩
  | 105 => ⟨S_, .i32⟩
  | 106 => ⟨S1x4x32, .f32⟩
  | 107 => ⟨S4x32, .f32⟩
  | 108 => ⟨S_, .i32⟩
  | 109 => ⟨S_, .i32⟩
  | 110 => ⟨S_, .i32⟩
  | 111 => ⟨S1x4x32x64, .f32⟩
  | 112 => ⟨S4x32x64, .f32⟩
  | 113 => ⟨S_, .i32⟩
  | 114 => ⟨S_, .i32⟩
  | 115 => ⟨S1x4x64, .f32⟩
  | 116 => ⟨S4x64, .f32⟩
  | 117 => ⟨S_, .i32⟩
  | 118 => ⟨S_, .i32⟩
  | 119 => ⟨S1x4x64, .f32⟩
  | 120 => ⟨S4x64, .f32⟩
  | 121 => ⟨S_, .i32⟩
  | 122 => ⟨S_, .i32⟩
  | 123 => ⟨S1x4x2048, .f32⟩
  | 124 => ⟨S4x2048, .f32⟩
  | 125 => ⟨S1x32, .f32⟩
  | 126 => ⟨S4x32, .f32⟩
  | 127 => ⟨S4x32, .f32⟩
  | _ => ⟨S4x2048x1024, .f32⟩

abbrev hbmTy0_1 (i : Nat) : BufTy := match i % 128 with
  | 0 => ⟨S4x32, .f32⟩
  | 1 => ⟨S4x32x1x1, .f32⟩
  | 2 => ⟨S4x32x64x64, .f32⟩
  | 3 => ⟨S4x32x64x64, .f32⟩
  | 4 => ⟨S4x32x1, .f32⟩
  | 5 => ⟨S4x32x64, .f32⟩
  | 6 => ⟨S4x32x64, .f32⟩
  | 7 => ⟨S4x32x64x1, .f32⟩
  | 8 => ⟨S4x1x1x64, .f32⟩
  | 9 => ⟨S4x32x64x64, .f32⟩
  | 10 => ⟨S4x32x64x64, .f32⟩
  | 11 => ⟨S4x32x64x64, .f32⟩
  | 12 => ⟨S4x32x64x64, .f32⟩
  | 13 => ⟨S4x32x64, .f32⟩
  | 14 => ⟨S1x32x1, .f32⟩
  | 15 => ⟨S4x32x64, .f32⟩
  | 16 => ⟨S4x32x64, .f32⟩
  | 17 => ⟨S4x32x64, .f32⟩
  | 18 => ⟨S4x2048, .f32⟩
  | 19 => ⟨S4x2048, .f32⟩
  | 20 => ⟨S4x2048, .f32⟩
  | 21 => ⟨S_, .f32⟩
  | 22 => ⟨S4x2048, .f32⟩
  | 23 => ⟨S4x2048, .f32⟩
  | 24 => ⟨S_, .f32⟩
  | 25 => ⟨S4x2048, .f32⟩
  | 26 => ⟨S4x2048, .f32⟩
  | 27 => ⟨S4x2048, .f32⟩
  | 28 => ⟨S4x2048, .f32⟩
  | 29 => ⟨S4x2048, .f32⟩
  | 30 => ⟨S_, .f32⟩
  | 31 => ⟨S4, .f32⟩
  | 32 => ⟨S4x1, .f32⟩
  | 33 => ⟨S_, .f32⟩
  | 34 => ⟨S4x1, .f32⟩
  | 35 => ⟨S4x1, .f32⟩
  | 36 => ⟨S_, .f32⟩
  | 37 => ⟨S4x1, .f32⟩
  | 38 => ⟨S4x1, .f32⟩
  | 39 => ⟨S4x1, .f32⟩
  | 40 => ⟨S4x2048, .f32⟩
  | 41 => ⟨S4x2048, .f32⟩
  | 42 => ⟨S1x2048, .f32⟩
  | 43 => ⟨S4x2048, .f32⟩
  | 44 => ⟨S4x2048, .f32⟩
  | 45 => ⟨S1x4x2048, .f32⟩
  | 46 => ⟨S_, .i32⟩
  | 47 => ⟨S_, .i32⟩
  | 48 => ⟨S2048x4x2048, .f32⟩
  | 49 => ⟨S_, .i32⟩
  | 50 => ⟨S_, .i32⟩
  | 51 => ⟨S4x2048x2048, .f32⟩
  | 52 => ⟨S4x2048x1024, .f32⟩
  | 53 => ⟨S8192x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v7 : Ref sig .tc := ⟨.hbm, 29, rfl⟩
abbrev main_c : Ref sig .tc := ⟨.hbm, 30, rfl⟩
abbrev main_call1_v0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_1 : Ref sig .tc := ⟨.hbm, 88, rfl⟩
abbrev main_v54 : Ref sig .tc := ⟨.hbm, 89, rfl⟩
abbrev main_c_2 : Ref sig .tc := ⟨.hbm, 90, rfl⟩
abbrev main_v55_0 : Ref sig .tc := ⟨.hbm, 91, rfl⟩
abbrev main_v55_1 : Ref sig .tc := ⟨.hbm, 92, rfl⟩
abbrev main_v55_2 : Ref sig .tc := ⟨.hbm, 93, rfl⟩
abbrev main_v55_3 : Ref sig .tc := ⟨.hbm, 94, rfl⟩
abbrev main_v55_4 : Ref sig .tc := ⟨.hbm, 95, rfl⟩
abbrev main_v55_5 : Ref sig .tc := ⟨.hbm, 96, rfl⟩
abbrev main_v55_6 : Ref sig .tc := ⟨.hbm, 97, rfl⟩
abbrev main_v55_7 : Ref sig .tc := ⟨.hbm, 98, rfl⟩
abbrev main_v55_8 : Ref sig .tc := ⟨.hbm, 99, rfl⟩
abbrev main_v55_9 : Ref sig .tc := ⟨.hbm, 100, rfl⟩
abbrev main_v55_10 : Ref sig .tc := ⟨.hbm, 101, rfl⟩
abbrev main_while0c_c_13 : Ref sig .tc := ⟨.hbm, 102, rfl⟩
abbrev main_while0c_v59 : Ref sig .tc := ⟨.hbm, 103, rfl⟩
abbrev main_while0b_call3_c : Ref sig .tc := ⟨.hbm, 104, rfl⟩
abbrev main_while0b_call3_c_0 : Ref sig .tc := ⟨.hbm, 105, rfl⟩
abbrev main_while0b_call3_v0 : Ref sig .tc := ⟨.hbm, 106, rfl⟩
abbrev main_while0b_v59 : Ref sig .tc := ⟨.hbm, 107, rfl⟩
abbrev main_while0b_call4_c : Ref sig .tc := ⟨.hbm, 108, rfl⟩
abbrev main_while0b_call4_c_0 : Ref sig .tc := ⟨.hbm, 109, rfl⟩
abbrev main_while0b_call4_c_1 : Ref sig .tc := ⟨.hbm, 110, rfl⟩
abbrev main_while0b_call4_v0 : Ref sig .tc := ⟨.hbm, 111, rfl⟩
abbrev main_while0b_v60 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_v0 : Ref sig .tc := ⟨.hbm, 115, rfl⟩
abbrev main_while0b_v61 : Ref sig .tc := ⟨.hbm, 116, rfl⟩
abbrev main_while0b_call6_c : Ref sig .tc := ⟨.hbm, 117, rfl⟩
abbrev main_while0b_call6_c_0 : Ref sig .tc := ⟨.hbm, 118, rfl⟩
abbrev main_while0b_call6_v0 : Ref sig .tc := ⟨.hbm, 119, rfl⟩
abbrev main_while0b_v62 : Ref sig .tc := ⟨.hbm, 120, rfl⟩
abbrev main_while0b_call7_c : Ref sig .tc := ⟨.hbm, 121, rfl⟩
abbrev main_while0b_call7_c_0 : Ref sig .tc := ⟨.hbm, 122, rfl⟩
abbrev main_while0b_call7_v0 : Ref sig .tc := ⟨.hbm, 123, rfl⟩
abbrev main_while0b_v63 : Ref sig .tc := ⟨.hbm, 124, rfl⟩
abbrev main_while0b_v64 : Ref sig .tc := ⟨.hbm, 125, rfl⟩
abbrev main_while0b_v65 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_v69 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_v80 : Ref sig .tc := ⟨.hbm, 141, rfl⟩
abbrev main_while0b_v81 : Ref sig .tc := ⟨.hbm, 142, rfl⟩
abbrev main_while0b_v82 : Ref sig .tc := ⟨.hbm, 143, rfl⟩
abbrev main_while0b_v83 : Ref sig .tc := ⟨.hbm, 144, rfl⟩
abbrev main_while0b_v84 : Ref sig .tc := ⟨.hbm, 145, rfl⟩
abbrev main_while0b_v85 : Ref sig .tc := ⟨.hbm, 146, rfl⟩
abbrev main_while0b_call8_v0 : Ref sig .tc := ⟨.hbm, 147, rfl⟩
abbrev main_while0b_call8_v1 : Ref sig .tc := ⟨.hbm, 148, rfl⟩
abbrev main_while0b_call8_cst : Ref sig .tc := ⟨.hbm, 149, rfl⟩
abbrev main_while0b_call8_v2 : Ref sig .tc := ⟨.hbm, 150, rfl⟩
abbrev main_while0b_call8_v3 : Ref sig .tc := ⟨.hbm, 151, rfl⟩
abbrev main_while0b_call8_cst_0 : Ref sig .tc := ⟨.hbm, 152, rfl⟩
abbrev main_while0b_call8_v4 : Ref sig .tc := ⟨.hbm, 153, rfl⟩
abbrev main_while0b_call8_v5 : Ref sig .tc := ⟨.hbm, 154, rfl⟩
abbrev main_while0b_v86 : Ref sig .tc := ⟨.hbm, 155, rfl⟩
abbrev main_while0b_v87 : Ref sig .tc := ⟨.hbm, 156, rfl⟩
abbrev main_while0b_v88 : Ref sig .tc := ⟨.hbm, 157, rfl⟩
abbrev main_while0b_cst_13 : Ref sig .tc := ⟨.hbm, 158, rfl⟩
abbrev main_while0b_v89 : Ref sig .tc := ⟨.hbm, 159, rfl⟩
abbrev main_while0b_v90 : Ref sig .tc := ⟨.hbm, 160, rfl⟩
abbrev main_while0b_cst_14 : Ref sig .tc := ⟨.hbm, 161, rfl⟩
abbrev main_while0b_v91 : Ref sig .tc := ⟨.hbm, 162, rfl⟩
abbrev main_while0b_v92 : Ref sig .tc := ⟨.hbm, 163, rfl⟩
abbrev main_while0b_cst_15 : Ref sig .tc := ⟨.hbm, 164, rfl⟩
abbrev main_while0b_v93 : Ref sig .tc := ⟨.hbm, 165, rfl⟩
abbrev main_while0b_v94 : Ref sig .tc := ⟨.hbm, 166, rfl⟩
abbrev main_while0b_v95 : Ref sig .tc := ⟨.hbm, 167, rfl⟩
abbrev main_while0b_v96 : Ref sig .tc := ⟨.hbm, 168, rfl⟩
abbrev main_while0b_v97 : Ref sig .tc := ⟨.hbm, 169, rfl⟩
abbrev main_while0b_v98 : Ref sig .tc := ⟨.hbm, 170, rfl⟩
abbrev main_while0b_v99 : Ref sig .tc := ⟨.hbm, 171, rfl⟩
abbrev main_while0b_v100 : Ref sig .tc := ⟨.hbm, 172, rfl⟩
abbrev main_while0b_call9_v0 : Ref sig .tc := ⟨.hbm, 173, rfl⟩
abbrev main_while0b_call9_c : Ref sig .tc := ⟨.hbm, 174, rfl⟩
abbrev main_while0b_call9_c_0 : Ref sig .tc := ⟨.hbm, 175, rfl⟩
abbrev main_while0b_v101 : Ref sig .tc := ⟨.hbm, 176, rfl⟩
abbrev main_while0b_c_16 : Ref sig .tc := ⟨.hbm, 177, rfl⟩
abbrev main_while0b_v102 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩

abbrev nD : Nat := 1
abbrev τ : Topo := Topo.v7x

variable {F : FTy → Type} [FloatOps F]

abbrev main_while0_count : Scf.Loop 32 := ⟨0#32, 2048#32, 1#32⟩
-- ==== Proof.Loop.lean ====
/- The reference's loop as a sequence of states: the state is read off the buffers the loop carries, and a trip of the
   program takes the state read before it to `step` of it. -/
module

public import proofs.«01_k».proof.Proof.Gen.ReferenceIdeal.Run
public import proofs.«01_k».proof.Proof.Gen.ReferenceIdeal.Step

@[expose] public section

set_option maxRecDepth 65536

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The state that the carried buffers hold. -/
def read (V : Valuation τ sig (Elt F)) : State F where
  main_v55_0 := V (Proc.devRef .tc main_v55_0)
  main_v55_1 := V (Proc.devRef .tc main_v55_1)
  main_v55_2 := V (Proc.devRef .tc main_v55_2)
  main_v55_3 := V (Proc.devRef .tc main_v55_3)
  main_v55_4 := V (Proc.devRef .tc main_v55_4)
  main_v55_5 := V (Proc.devRef .tc main_v55_5)
  main_v55_6 := V (Proc.devRef .tc main_v55_6)
  main_v55_7 := V (Proc.devRef .tc main_v55_7)
  main_v55_9 := V (Proc.devRef .tc main_v55_9)
  main_v55_10 := V (Proc.devRef .tc main_v55_10)

/-- The counter stands at `n`. -/
def Count (V : Valuation τ sig (Elt F)) (n : ℕ) : Prop :=
  V (Proc.devRef .tc main_v55_8) = constantI S_ 32 (BitVec.ofNat 32 n)

variable {V : Valuation τ sig (Elt F)} {n : ℕ}

/-- A trip advances the counter by one. -/
theorem count_trip (h : Count V n) : Count (STEP V) (n + 1) := by
  unfold Count at *
  rw [STEP_main_v55_8, step_main_v55_8, h]
  funext i
  exact (BitVec.ofNat_add n 1).symm

/-- The recurrence's state after a trip. -/
theorem state_trip (h : Count V n) : res_main_while0b_v79 V = b36 n (read V) := by
  unfold Count at h
  unfold res_main_while0b_v79 res_main_while0b_v59 res_main_while0b_v60
  rw [h]
  unfold b36 b35 b34 b33 b32 b31 b30 b29 b28 b27 b26 b25 b24 b23 b22 b21 b12 b11 b8 b7 b3 b2
  rfl

/-- The gated row of a trip. -/
theorem row_trip (h : Count V n) : res_main_while0b_v87 V = b52 n (read V) := by
  unfold res_main_while0b_v87 res_main_while0b_v63 res_main_while0b_v60
  rw [state_trip h]
  unfold Count at h
  rw [h]
  unfold b52 b51 b50 b49 b48 b47 b46 b45 b44 b43 b42 b41 b40 b39 b38 b37 b20 b19 b16 b15 b8 b7
  rfl

/-- The rows after a trip. -/
theorem rows_trip (h : Count V n) : Value.step_main_v55_10 V = b72 n (read V) := by
  unfold Value.step_main_v55_10
  rw [row_trip h]
  unfold Count at h
  rw [h]
  unfold b72 b69 b68 b67 b66 b65 b64 b63 b62 b61 b60 b59 b58 b57 b56 b55 b54 b53
  rfl

/-- A trip of the program is one `step` of the state it finds. -/
theorem read_trip (h : Count V n) : read (STEP V) = step n (read V) := by
  simp only [read, step, State.mk.injEq]
  exact ⟨(STEP_main_v55_9 V).trans (state_trip h), (STEP_main_v55_10 V).trans (rows_trip h), STEP_main_v55_0 V,
    STEP_main_v55_1 V, STEP_main_v55_2 V, STEP_main_v55_3 V, STEP_main_v55_4 V, STEP_main_v55_5 V, STEP_main_v55_6 V,
    STEP_main_v55_7 V⟩

/-- The states after each trip. -/
def iter (s : State F) : ℕ → State F
  | 0 => s
  | n + 1 => step n (iter s n)

/-- After `k` trips from a counter at zero the buffers hold state number `k`. -/
theorem read_iter (h : Count V 0) (k : ℕ) : read (STEP^[k] V) = iter (read V) k ∧ Count (STEP^[k] V) k := by
  induction k with
  | zero => exact ⟨rfl, h⟩
  | succ k ih =>
    rw [Function.iterate_succ_apply']
    exact ⟨by rw [read_trip ih.2, ih.1, iter], count_trip ih.2⟩

variable (m : (ℓ : Loc nD τ sig) → Buf (Elt F) ℓ) (c : Dev nD)

/-- The counter is zero at the loop's entry. -/
theorem count_entry : Count (entryContents preI m c) 0 := by
  unfold Count
  simp only [entryContents, afterL_cons, afterL_nil]
  after_reads_simp
  rfl

/-- The state at the loop's entry, of the arguments. -/
theorem read_entry : read (entryContents preI m c)
    = init (m ((c.tc : Thread nD τ).loc main_arg6)) (m ((c.tc : Thread nD τ).loc main_arg7))
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  simp only [read, init, State.mk.injEq, entryContents, afterL_cons, afterL_nil]
  after_reads_simp
  refine ⟨?_, ?_, ?_, ?_, ?_, ?_, ?_, ?_, ?_, ?_⟩ <;> rfl

/-- What the program returns, of the last state. -/
theorem out_read : out_main_v58 V = R_main_v58 (read V) (V (Proc.devRef .tc main_arg8)) := rfl

end Cert.ReferenceIdeal.Loop

end
-- ==== Proof.Block.lean ====
/- One grid point's work in the words of its sixty-four rounds: round `n` treats the rows of subchunk `n / 8` (64 rows)
   and the columns of head group `n % 8` (256 columns). Every round is the same composition of vector operations at
   different offsets; this module names that composition once (`Blk.snew`, `Blk.ypiece`) and states what the state slots
   and the output buffer hold after the first `n` rounds (`Inv`). -/
module

public import proofs.«01_k».proof.Proof.Gen.KernelIdeal.Skeleton
public import Idealize.ShloMosaic.Lib.Pipeline.FrameBody

@[expose] public section

noncomputable section

namespace Cert.KernelIdeal.Block

open Idealize.ShloMosaic Idealize.SL.Sem
open Cert.KernelIdeal Cert.KernelIdeal.Gen

variable {F : FTy → Type} [FloatOps F]

/-- The 64 rows of subchunk `s` lie in the block's 512. -/
theorem rows_le (s : Fin 8) : 64 * s.val + 64 ≤ 512 := by omega

/-- Subchunk `s` of a 512-row table of 32 columns. -/
theorem slices_rows (s : Fin 8) : S512x32.Slices ![64 * s.val, 0] S64x32 :=
  ⟨rfl, fun a => match a with
    | ⟨0, _⟩ => rows_le s
    | ⟨1, _⟩ => Nat.le_refl 32⟩

/-- Head group `g`'s 256 columns of 2048. -/
theorem slices_group (g : Fin 8) : S64x2048.Slices ![0, 256 * g.val] S64x256 :=
  ⟨rfl, fun a => match a with
    | ⟨0, _⟩ => Nat.le_refl 64
    | ⟨1, _⟩ => (by omega : 256 * g.val + 256 ≤ 2048)⟩

/-- The last row of head group `g`'s columns. -/
theorem slices_last (g : Fin 8) : S64x2048.Slices ![63, 256 * g.val] S1x256 :=
  ⟨rfl, fun a => match a with
    | ⟨0, _⟩ => Nat.le_refl 64
    | ⟨1, _⟩ => (by omega : 256 * g.val + 256 ≤ 2048)⟩

/-- Head `j` of a group: 64 of its 256 columns. -/
theorem slices_head (j : Fin 4) : S64x256.Slices ![0, 64 * j.val] S64x64 :=
  ⟨rfl, fun a => match a with
    | ⟨0, _⟩ => Nat.le_refl 64
    | ⟨1, _⟩ => (by omega : 64 * j.val + 64 ≤ 256)⟩

/-- One head's column of a 64 by 32 table. -/
theorem slices_col (g : Fin 8) (j : Fin 4) : S64x32.Slices ![0, 4 * g.val + j.val] S64x1 :=
  ⟨rfl, fun a => match a with
    | ⟨0, _⟩ => Nat.le_refl 64
    | ⟨1, _⟩ => (by omega : 4 * g.val + j.val + 1 ≤ 32)⟩

/-- One head's row of a 32 by 64 table. -/
theorem slices_row (g : Fin 8) (j : Fin 4) : S32x64.Slices ![4 * g.val + j.val, 0] S1x64 :=
  ⟨rfl, fun a => match a with
    | ⟨0, _⟩ => (by omega : 4 * g.val + j.val + 1 ≤ 32)
    | ⟨1, _⟩ => Nat.le_refl 64⟩

/-- State slot `g` lies in the state. -/
theorem inb_slot (g : Fin 8) : ∀ a, (![g.val, 0, 0] : Fin 3 → ℕ) a + S1x64x256.size a ≤ S8x64x256.size a := fun a =>
  match a with
  | ⟨0, _⟩ => (by omega : g.val + 1 ≤ 8)
  | ⟨1, _⟩ => Nat.le_refl 64
  | ⟨2, _⟩ => Nat.le_refl 256

/-- Subchunk `s`, head `4 g + j` lies in the output buffer. -/
theorem inb_head (s g : Fin 8) (j : Fin 4) :
    ∀ a, (![64 * s.val, 256 * g.val + 64 * j.val] : Fin 2 → ℕ) a + S64x64.size a ≤ S512x2048.size a := fun a =>
  match a with
  | ⟨0, _⟩ => rows_le s
  | ⟨1, _⟩ => (by omega : 256 * g.val + 64 * j.val + 64 ≤ 2048)

/-- The input projections' rows of subchunk `s`. -/
theorem inb_B (s : Fin 8) : ∀ a, (![64 * s.val, 2048] : Fin 2 → ℕ) a + S64x64.size a ≤ S512x2176.size a := fun a =>
  match a with
  | ⟨0, _⟩ => rows_le s
  | ⟨1, _⟩ => (by omega : 2048 + 64 ≤ 2176)

/-- The output projections' rows of subchunk `s`. -/
theorem inb_C (s : Fin 8) : ∀ a, (![64 * s.val, 2112] : Fin 2 → ℕ) a + S64x64.size a ≤ S512x2176.size a := fun a =>
  match a with
  | ⟨0, _⟩ => rows_le s
  | ⟨1, _⟩ => (by omega : 2112 + 64 ≤ 2176)

/-- Head group `g`'s inputs of subchunk `s`. -/
theorem inb_x (s g : Fin 8) :
    ∀ a, (![64 * s.val, 256 * g.val] : Fin 2 → ℕ) a + S64x256.size a ≤ S512x2176.size a := fun a =>
  match a with
  | ⟨0, _⟩ => rows_le s
  | ⟨1, _⟩ => (by omega : 256 * g.val + 256 ≤ 2176)

/-- The rectangle of subchunk `s`'s input projections. -/
abbrev recB (s : Fin 8) : Rect S512x2176 := Rect.unit ![64 * s.val, 2048] S64x64.size (inb_B s)

/-- The rectangle of subchunk `s`'s output projections. -/
abbrev recC (s : Fin 8) : Rect S512x2176 := Rect.unit ![64 * s.val, 2112] S64x64.size (inb_C s)

/-- The rectangle of subchunk `s`'s inputs of head group `g`. -/
abbrev recX (s g : Fin 8) : Rect S512x2176 := Rect.unit ![64 * s.val, 256 * g.val] S64x256.size (inb_x s g)

/-- What the rounds of one grid point read: the step sizes and the decay exponents of the block's 512 rows, the table
    that repeats a head's number over its 64 columns, the convolved rows by subchunk, and the state slots at entry. -/
structure Blk (F : FTy → Type) where
  /-- step sizes, row by head -/
  dt : FVec F S512x32 .f32
  /-- decay exponents, row by head -/
  a : FVec F S512x32 .f32
  /-- head to its 64 columns -/
  e : Vec F S32x2048 .bf16
  /-- input projections of a subchunk -/
  B : Fin 8 → Vec F S64x64 .f32
  /-- output projections of a subchunk -/
  C : Fin 8 → Vec F S64x64 .f32
  /-- inputs of a subchunk and head group -/
  x : Fin 8 → Fin 8 → Vec F S64x256 .f32
  /-- state slots at entry -/
  s0 : Fin 8 → Vec F S1x64x256 .f32

namespace Blk

variable (b : Blk F) (s g : Fin 8) (j : Fin 4)

/-- The step sizes of subchunk `s`. -/
def dts : FVec F S64x32 .f32 := extractStridedSlice S64x32 ![64 * s.val, 0] b.dt (slices_rows s)

/-- The decay exponents of subchunk `s`. -/
def asub : FVec F S64x32 .f32 := extractStridedSlice S64x32 ![64 * s.val, 0] b.a (slices_rows s)

/-- The head table as the product reads it. -/
def ev : FVec F S32x2048 .bf16 := k0_pay17 b.e

/-- The running sum of the decay exponents down the subchunk, a column per head. -/
def cumCol : FVec F S64x32 .f32 :=
  matmul dot_S64x64_S64x32_S64x32_1_0_0_1_n_n none (k0_pay15 (F := F)) (b.asub s) (constant S64x32 .f32 0x00000000#32)

/-- The same running sum, a row per head. -/
def cumRow : FVec F S32x64 .f32 :=
  matmul dot_S64x32_S64x64_S32x64_0_0_1_1_n_n none (b.asub s)
    (k0_pay16 (F := F) (iota .tc S64x64 32 [0] iota_S64x64_d0_w32) (iota .tc S64x64 32 [1] iota_S64x64_d1_w32))
    (constant S32x64 .f32 0x00000000#32)

/-- The products of output and input projections, zero above the diagonal. -/
def cbm : FVec F S64x64 .f32 :=
  select (k0_pay14) (matmul dot_S64x64_S64x64_S64x64_1_1_0_0_n_n none (b.C s) (b.B s) (constant S64x64 .f32 0x00000000#32))
    (broadcast S64x64 (Scalar.ofBits .f32 0x00000000#32))

/-- A number per row and head, repeated over the head's 64 columns. -/
def rep (v : FVec F S64x32 .f32) : FVec F S64x2048 .f32 :=
  matmul dot_S64x32_S32x2048_S64x2048_1_0_0_1_n_n none (truncf .bf16 v bitsLt_bf16_f32) b.ev
    (constant S64x2048 .f32 0x00000000#32)

/-- The decay from each row to the subchunk's last. -/
def toLast : FVec F S64x32 .f32 :=
  exp (subf (broadcastTo S64x32 (extractStridedSlice S1x32 ![63, 0] (b.cumCol s) slices_S64x32_o63_0_S1x32)
    broadcasts_S1x32_S64x32) (b.cumCol s))

/-- The decay from the subchunk's start to each row, over the heads' columns. -/
def ecol : FVec F S64x2048 .f32 := b.rep (exp (b.cumCol s))

/-- A round's inputs, each times its step size. -/
def xw : FVec F S64x256 .f32 :=
  mulf (b.x s g) (extractStridedSlice S64x256 ![0, 256 * g.val] (b.rep (b.dts s)) (slices_group g))

/-- A state slot as a matrix. -/
def mat (X : Vec F S1x64x256 .f32) : FVec F S64x256 .f32 := shapeCast S64x256 X shapeCasts_S1x64x256_S64x256

/-- What a round's rows read off the state `X` it begins with. -/
def yint (X : Vec F S1x64x256 .f32) : FVec F S64x256 .f32 :=
  mulf (extractStridedSlice S64x256 ![0, 256 * g.val] (b.ecol s) (slices_group g))
    (matmul dot_S64x64_S64x256_S64x256_1_0_0_1_n_n none (b.C s) (mat X) (constant S64x256 .f32 0x00000000#32))

/-- The state slot a round leaves, from the state `X` it begins with. -/
def snew (X : Vec F S1x64x256 .f32) : FVec F S1x64x256 .f32 :=
  shapeCast S1x64x256
    (addf
      (matmul dot_S64x64_S64x256_S64x256_0_0_1_1_n_n none (b.B s)
        (mulf (b.x s g)
          (extractStridedSlice S64x256 ![0, 256 * g.val] (b.rep (mulf (b.dts s) (b.toLast s))) (slices_group g)))
        (constant S64x256 .f32 0x00000000#32))
      (mulf (broadcastTo S64x256 (extractStridedSlice S1x256 ![63, 256 * g.val] (b.ecol s) (slices_last g))
        broadcasts_S1x256_S64x256) (mat X)))
    shapeCasts_S64x256_S1x64x256

/-- The weights of head `4 g + j`: row by earlier row of the subchunk. -/
def wts : FVec F S64x64 .f32 :=
  mulf (b.cbm s)
    (exp (minimumf
      (subf
        (broadcastTo S64x64 (extractStridedSlice S64x1 ![0, 4 * g.val + j.val] (b.cumCol s) (slices_col g j))
          broadcasts_S64x1_S64x64)
        (broadcastTo S64x64 (extractStridedSlice S1x64 ![4 * g.val + j.val, 0] (b.cumRow s) (slices_row g j))
          broadcasts_S1x64_S64x64))
      (broadcast S64x64 (Scalar.ofBits .f32 0x00000000#32))))

/-- The rows of the output buffer a round leaves for its head `j`. -/
def ypiece (X : Vec F S1x64x256 .f32) : FVec F S64x64 .f32 :=
  shapeCast S64x64
    (addf
      (matmul dot_S64x64_S64x64_S64x64_1_0_0_1_n_n none (b.wts s g j)
        (extractStridedSlice S64x64 ![0, 64 * j.val] (b.xw s g) (slices_head j)) (constant S64x64 .f32 0x00000000#32))
      (extractStridedSlice S64x64 ![0, 64 * j.val] (b.yint s g X) (slices_head j)))
    shapeCasts_S64x64_S64x64

/-- State slot `g` before subchunk `k`. -/
def st (g : Fin 8) : ℕ → Vec F S1x64x256 .f32
  | 0 => b.s0 g
  | k + 1 => if h : k < 8 then b.snew ⟨k, h⟩ g (st g k) else st g k

end Blk

/-- A place of the output buffer within its subchunk and head. -/
def loc (y : S512x2048.Idx) : S64x64.Idx := fun a => match a with
  | ⟨0, _⟩ => ⟨(y 0).val % 64, Nat.mod_lt _ (by decide)⟩
  | ⟨1, _⟩ => ⟨(y 1).val % 64, Nat.mod_lt _ (by decide)⟩

/-- Row `y` of the output buffer after all rounds. -/
def Blk.Y (b : Blk F) (y : S512x2048.Idx) : F .f32 :=
  b.ypiece ⟨(y 0).val / 64, by have := (y 0).isLt; change (y 0).val < 512 at this; omega⟩
    ⟨(y 1).val / 256, by have := (y 1).isLt; change (y 1).val < 2048 at this; omega⟩
    ⟨(y 1).val / 64 % 4, by omega⟩
    (b.st ⟨(y 1).val / 256, by have := (y 1).isLt; change (y 1).val < 2048 at this; omega⟩ ((y 0).val / 64))
    (loc y)

/-- The same, with the subchunk, the group and the head named. -/
theorem Blk.Y_eq (b : Blk F) (y : S512x2048.Idx) (s g : Fin 8) (j : Fin 4) (hs : (y 0).val / 64 = s.val)
    (hg : (y 1).val / 256 = g.val) (hj : (y 1).val / 64 % 4 = j.val) :
    b.Y y = b.ypiece s g j (b.st g s.val) (loc y) := by
  have hy0 : (y 0).val < 512 := (y 0).isLt
  have hy1 : (y 1).val < 2048 := (y 1).isLt
  have a0 : (y 0).val / 64 < 8 := by omega
  have a1 : (y 1).val / 256 < 8 := by omega
  have a2 : (y 1).val / 64 % 4 < 4 := by omega
  obtain rfl : s = ⟨(y 0).val / 64, a0⟩ := Fin.ext hs.symm
  obtain rfl : g = ⟨(y 1).val / 256, a1⟩ := Fin.ext hg.symm
  obtain rfl : j = ⟨(y 1).val / 64 % 4, a2⟩ := Fin.ext hj.symm
  rfl

/-- The state after all rounds. -/
def Blk.S (b : Blk F) (y : S8x64x256.Idx) : F .f32 :=
  b.st (y 0) 8 (fun a => match a with
    | ⟨0, _⟩ => (0 : Fin 1)
    | ⟨1, _⟩ => y 1
    | ⟨2, _⟩ => y 2)

/-! ## What the rounds leave -/

/-- The rectangle of state slot `g`. -/
abbrev slot (g : Fin 8) : Rect S8x64x256 := Rect.unit ![g.val, 0, 0] S1x64x256.size (inb_slot g)

/-- The rectangle of subchunk `s` and head `4 g + j` in the output buffer. -/
abbrev head (s g : Fin 8) (j : Fin 4) : Rect S512x2048 :=
  Rect.unit ![64 * s.val, 256 * g.val + 64 * j.val] S64x64.size (inb_head s g j)

variable {L1 : List (View.Piece (Elt F) S8x64x256 .f32)} {L4 : List (View.Piece (Elt F) S512x2048 .f32)}

/-- Reading a slot under a last write of that slot gives the write. -/
theorem canon_slot_self (g : Fin 8) (w : Vec F S1x64x256 .f32) :
    (fun x => View.canon (⟨slot g, w⟩ :: L1) ((slot g).toLoadRect.idx x)) = w := by
  funext x
  exact View.canon_cons_emb (slot g) w L1 x

/-- Reading a slot under a last write of another slot gives what was there. -/
theorem canon_slot_ne {g g' : Fin 8} (h : g ≠ g') (w : Vec F S1x64x256 .f32) :
    (fun x => View.canon (⟨slot g, w⟩ :: L1) ((slot g').toLoadRect.idx x))
      = fun x => View.canon L1 ((slot g').toLoadRect.idx x) := by
  funext x
  refine View.canon_cons_of_not_mem _ _ fun hm => h (Fin.ext ?_)
  have h0 := (Rect.mem_set_unit.mp (show (slot g').toLoadRect.idx x ∈ (slot g).set from hm)) 0
  have hx : (x 0).val < 1 := (x 0).isLt
  have hv : ((slot g').toLoadRect.idx x 0).val = g'.val + 1 * (x 0).val := rfl
  have h1 : g.val ≤ ((slot g').toLoadRect.idx x 0).val := h0.1
  have h2 : ((slot g').toLoadRect.idx x 0).val < g.val + 1 := h0.2
  omega

/-- The output buffer under a last write of one head's rows. -/
theorem canon_head (s g : Fin 8) (j : Fin 4) (w : FVec F S64x64 .f32) (y : S512x2048.Idx) :
    View.canon (⟨head s g j, w⟩ :: L4) y
      = if (y 0).val / 64 = s.val ∧ (y 1).val / 64 = 4 * g.val + j.val then
          w (loc y)
        else View.canon L4 y := by
  split
  · next h =>
    have hy : y = (head s g j).emb (loc y) := by
      funext a
      match a with
      | ⟨0, _⟩ =>
        refine Fin.ext (?_ : (y 0).val = 64 * s.val + 1 * ((y 0).val % 64))
        omega
      | ⟨1, _⟩ =>
        refine Fin.ext (?_ : (y 1).val = (256 * g.val + 64 * j.val) + 1 * ((y 1).val % 64))
        omega
    conv_lhs => rw [hy]
    exact View.canon_cons_emb (head s g j) w L4 _
  · next h =>
    refine View.canon_cons_of_not_mem _ _ fun hm => h ?_
    have h0 := (Rect.mem_set_unit.mp (show y ∈ (head s g j).set from hm)) 0
    have h1 := (Rect.mem_set_unit.mp (show y ∈ (head s g j).set from hm)) 1
    have a1 : 64 * s.val ≤ (y 0).val := h0.1
    have a2 : (y 0).val < 64 * s.val + 64 := h0.2
    have a3 : 256 * g.val + 64 * j.val ≤ (y 1).val := h1.1
    have a4 : (y 1).val < 256 * g.val + 64 * j.val + 64 := h1.2
    omega

/-- After the first `n` rounds: a slot that a round has treated (every slot, if the slots were written at entry) holds its
    state, and the output buffer holds the rows of every treated subchunk and head group. -/
def Inv (b : Blk F) (base : Prop) (n : ℕ) (L1 : List (View.Piece (Elt F) S8x64x256 .f32))
    (L4 : List (View.Piece (Elt F) S512x2048 .f32)) : Prop :=
  (∀ g : Fin 8, (base ∨ g.val < n) → (fun x => View.canon L1 ((slot g).toLoadRect.idx x)) = b.st g ((n + 7 - g.val) / 8))
    ∧ ∀ y : S512x2048.Idx, 8 * ((y 0).val / 64) + (y 1).val / 256 < n → View.canon L4 y = b.Y y

/-- The subchunk of round `n`. -/
abbrev sc (n : ℕ) (h : n < 64) : Fin 8 := ⟨n / 8, by omega⟩
/-- The head group of round `n`. -/
abbrev gr (n : ℕ) : Fin 8 := ⟨n % 8, by omega⟩

/-- One round: from the state its slot holds it writes the slot and four heads' rows. -/
theorem inv_step {b : Blk F} {base : Prop} {n : ℕ} (hn : n < 64) (hI : Inv b base n L1 L4)
    {X : Vec F S1x64x256 .f32} (hX : X = b.st (gr n) (n / 8)) {p : Vec F S1x64x256 .f32} {y0 y1 y2 y3 : FVec F S64x64 .f32}
    (hp : p = b.snew (sc n hn) (gr n) X) (h0 : y0 = b.ypiece (sc n hn) (gr n) 0 X) (h1 : y1 = b.ypiece (sc n hn) (gr n) 1 X)
    (h2 : y2 = b.ypiece (sc n hn) (gr n) 2 X) (h3 : y3 = b.ypiece (sc n hn) (gr n) 3 X) :
    Inv b base (n + 1) (⟨slot (gr n), p⟩ :: L1)
      (⟨head (sc n hn) (gr n) 3, y3⟩ :: ⟨head (sc n hn) (gr n) 2, y2⟩ :: ⟨head (sc n hn) (gr n) 1, y1⟩ ::
        ⟨head (sc n hn) (gr n) 0, y0⟩ :: L4) := by
  subst hX hp h0 h1 h2 h3
  refine ⟨fun g hg => ?_, fun y hy => ?_⟩
  · by_cases hgn : gr n = g
    · subst hgn
      rw [canon_slot_self]
      have hk : (n + 1 + 7 - (gr n).val) / 8 = n / 8 + 1 := by
        change (n + 1 + 7 - n % 8) / 8 = _; omega
      rw [hk, Blk.st, dif_pos (by omega)]
    · rw [canon_slot_ne hgn]
      have hne : n % 8 ≠ g.val := fun h => hgn (Fin.ext h)
      have hk : (n + 1 + 7 - g.val) / 8 = (n + 7 - g.val) / 8 := by omega
      rw [hk]
      refine hI.1 g (hg.imp_right fun h => ?_)
      omega
  · have hy0 : (y 0).val < 512 := (y 0).isLt
    have hy1 : (y 1).val < 2048 := (y 1).isLt
    rw [canon_head, canon_head, canon_head, canon_head]
    by_cases hb : 8 * ((y 0).val / 64) + (y 1).val / 256 = n
    · have e0 : (y 0).val / 64 = n / 8 := by omega
      have e1 : (y 1).val / 256 = n % 8 := by omega
      have hj : (y 1).val / 64 % 4 < 4 := by omega
      have eY : ∀ j : Fin 4, (y 1).val / 64 % 4 = j.val → b.Y y = b.ypiece (sc n hn) (gr n) j (b.st (gr n) (n / 8))
          (loc y) := by
        exact fun j hj => b.Y_eq y (sc n hn) (gr n) j e0 e1 hj
      have c0 : (y 0).val / 64 = (sc n hn).val := e0
      have hq : (y 1).val / 64 = 4 * (n % 8) + (y 1).val / 64 % 4 := by omega
      generalize (y 1).val / 64 % 4 = k at hj hq eY
      have d : ∀ j : Fin 4, ((y 0).val / 64 = (sc n hn).val ∧ (y 1).val / 64 = 4 * (gr n).val + j.val) ↔ k = j.val := by
        intro j
        refine ⟨fun h => ?_, fun h => ⟨c0, ?_⟩⟩
        · have := h.2; change (y 1).val / 64 = 4 * (n % 8) + j.val at this; omega
        · change (y 1).val / 64 = 4 * (n % 8) + j.val; omega
      simp only [d]
      match k, hj with
      | 0, _ => exact (eY 0 rfl).symm
      | 1, _ => exact (eY 1 rfl).symm
      | 2, _ => exact (eY 2 rfl).symm
      | 3, _ => exact (eY 3 rfl).symm
    · have hlt : 8 * ((y 0).val / 64) + (y 1).val / 256 < n := by omega
      have d : ∀ j : Fin 4, ¬ ((y 0).val / 64 = (sc n hn).val ∧ (y 1).val / 64 = 4 * (gr n).val + j.val) := by
        intro j h
        have a := h.1
        have c := h.2
        change (y 0).val / 64 = n / 8 at a
        change (y 1).val / 64 = 4 * (n % 8) + j.val at c
        omega
      rw [if_neg (d 3), if_neg (d 2), if_neg (d 1), if_neg (d 0)]
      exact hI.2 y hlt

/-- A round that reads its slot back from the writes so far. -/
theorem inv_read {sig : RefSig} {κ : Kind} {sp : Space} {v : View sig κ sp S8x64x256 .f32} {b : Blk F} {base : Prop} {n : ℕ}
    (hn : n < 64) (hr : base ∨ 8 ≤ n) (hI : Inv b base n L1 L4) {p : Vec F S1x64x256 .f32} {y0 y1 y2 y3 : FVec F S64x64 .f32}
    (hp : p = b.snew (sc n hn) (gr n) (v.readCov L1 (slot (gr n)).toLoadRect))
    (h0 : y0 = b.ypiece (sc n hn) (gr n) 0 (v.readCov L1 (slot (gr n)).toLoadRect))
    (h1 : y1 = b.ypiece (sc n hn) (gr n) 1 (v.readCov L1 (slot (gr n)).toLoadRect))
    (h2 : y2 = b.ypiece (sc n hn) (gr n) 2 (v.readCov L1 (slot (gr n)).toLoadRect))
    (h3 : y3 = b.ypiece (sc n hn) (gr n) 3 (v.readCov L1 (slot (gr n)).toLoadRect)) :
    Inv b base (n + 1) (⟨slot (gr n), p⟩ :: L1)
      (⟨head (sc n hn) (gr n) 3, y3⟩ :: ⟨head (sc n hn) (gr n) 2, y2⟩ :: ⟨head (sc n hn) (gr n) 1, y1⟩ ::
        ⟨head (sc n hn) (gr n) 0, y0⟩ :: L4) := by
  refine inv_step hn hI ?_ hp h0 h1 h2 h3
  rw [View.readCov_eq_canon']
  have hk : (n + 7 - (gr n).val) / 8 = n / 8 := by
    change (n + 7 - n % 8) / 8 = _; omega
  rw [← hk]
  refine hI.1 (gr n) (hr.imp_right fun h => ?_)
  change n % 8 < n; omega

/-- A round that reads its slot as it stood at entry. -/
theorem inv_first {b : Blk F} {base : Prop} {n : ℕ}
    (hn : n < 8) (hI : Inv b base n L1 L4) {p : Vec F S1x64x256 .f32} {y0 y1 y2 y3 : FVec F S64x64 .f32}
    (hp : p = b.snew (sc n (by omega)) (gr n) (b.s0 (gr n)))
    (h0 : y0 = b.ypiece (sc n (by omega)) (gr n) 0 (b.s0 (gr n)))
    (h1 : y1 = b.ypiece (sc n (by omega)) (gr n) 1 (b.s0 (gr n)))
    (h2 : y2 = b.ypiece (sc n (by omega)) (gr n) 2 (b.s0 (gr n)))
    (h3 : y3 = b.ypiece (sc n (by omega)) (gr n) 3 (b.s0 (gr n))) :
    Inv b base (n + 1) (⟨slot (gr n), p⟩ :: L1)
      (⟨head (sc n (by omega)) (gr n) 3, y3⟩ :: ⟨head (sc n (by omega)) (gr n) 2, y2⟩ ::
        ⟨head (sc n (by omega)) (gr n) 1, y1⟩ :: ⟨head (sc n (by omega)) (gr n) 0, y0⟩ :: L4) := by
  refine inv_step (by omega) hI ?_ hp h0 h1 h2 h3
  have hk : n / 8 = 0 := by omega
  rw [hk, Blk.st]

/-- After all rounds the output buffer holds every row. -/
theorem Inv.canon4 {b : Blk F} {base : Prop} (h : Inv b base 64 L1 L4) : View.canon L4 = b.Y := by
  funext y
  have hy0 : (y 0).val < 512 := (y 0).isLt
  have hy1 : (y 1).val < 2048 := (y 1).isLt
  exact h.2 y (by omega)

/-- After all rounds every slot holds its last state. -/
theorem Inv.canon1 {b : Blk F} {base : Prop} (h : Inv b base 64 L1 L4) : View.canon L1 = b.S := by
  funext y
  have hy : (y 0).val < 8 := (y 0).isLt
  have e := congrFun (h.1 (y 0) (Or.inr (by omega))) (fun a => match a with
    | ⟨0, _⟩ => (0 : Fin 1)
    | ⟨1, _⟩ => y 1
    | ⟨2, _⟩ => y 2)
  have hk : (64 + 7 - (y 0).val) / 8 = 8 := by omega
  rw [hk] at e
  refine Eq.trans (congrArg (View.canon L1) ?_) e
  funext a
  match a with
  | ⟨0, _⟩ => exact Fin.ext (show (y 0).val = (y 0).val + 1 * 0 by omega)
  | ⟨1, _⟩ => exact Fin.ext (show (y 1).val = 0 + 1 * (y 1).val by omega)
  | ⟨2, _⟩ => exact Fin.ext (show (y 2).val = 0 + 1 * (y 2).val by omega)

end Cert.KernelIdeal.Block

end
-- ==== Proof.Scan.lean ====
/- The linear recurrence, read in pieces

`scan α u h` is the recurrence `h (t+1) = h t * exp (α t) + u t` over the reals. The kernel walks it in
pieces of 64 steps, with prefix sums of `α` inside a piece; this module holds the identities which say
that the pieces give the recurrence back.
-/
module

public import Idealize.ShloMosaic.Lib.Pointwise

@[expose] public section

namespace Cert.Scan

open Finset

/-- The recurrence, from the starting value `h`. -/
noncomputable def scan (α u : ℕ → ℝ) (h : ℝ) : ℕ → ℝ
  | 0 => h
  | t + 1 => scan α u h t * Real.exp (α t) + u t

/-- The sum of the `k` values of `α` from position `s` on. -/
def cum (α : ℕ → ℝ) (s k : ℕ) : ℝ := ∑ l ∈ range k, α (s + l)

/-- A prefix sum grows by its next term. -/
theorem cum_succ (α : ℕ → ℝ) (s k : ℕ) : cum α s (k + 1) = cum α s k + α (s + k) :=
  sum_range_succ _ _

/-- Where no term is positive, the prefix sums do not increase. -/
theorem cum_anti {α : ℕ → ℝ} (hα : ∀ t, α t ≤ 0) (s : ℕ) : Antitone (cum α s) :=
  antitone_nat_of_succ_le fun k => by rw [cum_succ]; linarith [hα (s + k)]

/-- Starting over at position `s` continues the recurrence. -/
theorem scan_shift (α u : ℕ → ℝ) (h : ℝ) (s k : ℕ) :
    scan (fun t => α (s + t)) (fun t => u (s + t)) (scan α u h s) k = scan α u h (s + k) := by
  induction k with
  | zero => rfl
  | succ k ih => rw [scan, ih]; rfl

/-- `k` steps at once: the value at `s` decayed, and every later input decayed from its own step on. -/
theorem scan_add (α u : ℕ → ℝ) (h : ℝ) (s k : ℕ) :
    scan α u h (s + k) = Real.exp (cum α s k) * scan α u h s
      + ∑ l ∈ range k, Real.exp (cum α s k - cum α s (l + 1)) * u (s + l) := by
  induction k with
  | zero => simp [cum]
  | succ k ih =>
    rw [← Nat.add_assoc, scan, ih, sum_range_succ, cum_succ, sub_self, Real.exp_zero, one_mul, Real.exp_add,
      add_mul, sum_mul, ← add_assoc]
    congr 2
    · ring
    · refine sum_congr rfl fun l _ => ?_
      rw [show cum α s k + α (s + k) - cum α s (l + 1) = (cum α s k - cum α s (l + 1)) + α (s + k) by ring,
        Real.exp_add]
      ring

/-- A sum over 64 places whose terms vanish past `i` is a sum over the first `i + 1`. -/
theorem sum_le (i : ℕ) (hi : i < 64) (f : ℕ → ℝ) :
    ∑ j : Fin 64, (if j.val ≤ i then f j.val else 0) = ∑ j ∈ range (i + 1), f j := by
  rw [Fin.sum_univ_eq_sum_range (fun j => if j ≤ i then f j else 0) 64, ← sum_filter]
  refine sum_congr (Finset.ext fun j => ?_) fun _ _ => rfl
  simp only [mem_filter, mem_range]
  omega

/-- What one piece reads out at its step `i`: the part inside the piece, through the pairwise decays, and the part
the piece began with. -/
theorem read {α : ℕ → ℝ} (hα : ∀ t, α t ≤ 0) (v : ℕ → ℝ) (B : ℕ → Fin 64 → ℝ) (C : Fin 64 → ℝ) (h : Fin 64 → ℝ)
    (s i : ℕ) (hi : i < 64) :
    ∑ j : Fin 64, (if j.val ≤ i then (∑ n, C n * B (s + j.val) n)
        * Real.exp (min (cum α s (i + 1) - cum α s (j.val + 1)) 0) * v (s + j.val) else 0)
      + Real.exp (cum α s (i + 1)) * ∑ n, C n * scan α (fun t => v t * B t n) (h n) s
    = ∑ n, C n * scan α (fun t => v t * B t n) (h n) (s + i + 1) := by
  rw [sum_le i hi fun j => (∑ n, C n * B (s + j) n)
        * Real.exp (min (cum α s (i + 1) - cum α s (j + 1)) 0) * v (s + j)]
  have e (n : Fin 64) := scan_add α (fun t => v t * B t n) (h n) s (i + 1)
  simp only [Nat.add_assoc s i 1, e, mul_add, sum_add_distrib]
  rw [add_comm, mul_sum]
  congr 1
  · exact sum_congr rfl fun n _ => by ring
  · simp only [mul_sum]
    rw [sum_comm]
    refine sum_congr rfl fun j hj => ?_
    have hj' : j + 1 ≤ i + 1 := by have := mem_range.mp hj; omega
    rw [min_eq_left (by linarith [cum_anti hα s hj']), sum_mul, sum_mul]
    exact sum_congr rfl fun n _ => by ring

/-- One piece's last value. -/
theorem last (α v : ℕ → ℝ) (B : ℕ → ℝ) (h : ℝ) (s : ℕ) :
    ∑ j : Fin 64, B (s + j.val) * (v (s + j.val) * Real.exp (cum α s 64 - cum α s (j.val + 1)))
      + Real.exp (cum α s 64) * scan α (fun t => v t * B t) h s
    = scan α (fun t => v t * B t) h (s + 64) := by
  rw [scan_add, add_comm,
    Fin.sum_univ_eq_sum_range (fun j => B (s + j) * (v (s + j) * Real.exp (cum α s 64 - cum α s (j + 1)))) 64]
  congr 1
  exact sum_congr rfl fun j _ => by ring

/-- The recurrence of column `κ` and state index `n`: each step decays the state and adds the step's input times its step
    size times its input projection. -/
noncomputable def state (dt α X H0 : ℕ → ℕ → ℝ) (κ n : ℕ) : ℕ → ℝ :=
  scan (fun t => α t (κ / 64)) (fun t => (X t κ * dt t (κ / 64)) * X t (2048 + n)) (H0 κ n)

/-- The same with the start moved to step `s`. -/
theorem state_shift (dt α X H0 : ℕ → ℕ → ℝ) (s κ n k : ℕ) :
    state (fun t => dt (s + t)) (fun t => α (s + t)) (fun t => X (s + t)) (fun κ n => state dt α X H0 κ n s) κ n k
      = state dt α X H0 κ n (s + k) :=
  scan_shift (fun t => α t (κ / 64)) (fun t => (X t κ * dt t (κ / 64)) * X t (2048 + n)) (H0 κ n) s k

end Cert.Scan
-- ==== Proof.Spec.lean ====
/- The block's mathematics over the reals, indexed by batch, time and column, with the final row over the extended reals
   (the skip weights, the norm's weights and the output matrix are not assumed finite). Both programs are shown to
   compute `out`. -/
module

public import proofs.«01_k».proof.Proof.Scan
public import Idealize.ShloMosaic.Lib.Pointwise

@[expose] public section

noncomputable section

namespace Cert.Spec

open Idealize.ShloMosaic
open Cert.Scan (state)

/-- A finite sum of reals is a real. -/
theorem coe_sum {n : ℕ} (f : Fin n → ℝ) : ((∑ i, f i : ℝ) : EReal) = ∑ i, (f i : EReal) :=
  map_sum (⟨⟨Real.toEReal, rfl⟩, EReal.coe_add⟩ : ℝ →+ EReal) f Finset.univ

/-- The lesser of two reals, as extended reals. -/
theorem coe_min (x y : ℝ) : ((min x y : ℝ) : EReal) = min (x : EReal) (y : EReal) := by
  rcases le_total x y with h | h
  · rw [min_eq_left h, min_eq_left (EReal.coe_le_coe_iff.mpr h)]
  · rw [min_eq_right h, min_eq_right (EReal.coe_le_coe_iff.mpr h)]

/-- The greater of two reals, as extended reals. -/
theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-- The operands that are real numbers. -/
structure Par where
  /-- the sequences: batch, time, feature -/
  X : ℕ → ℕ → ℕ → ℝ
  /-- the input matrix: feature, column -/
  W : ℕ → ℕ → ℝ
  /-- the taps: channel, tap -/
  cw : ℕ → ℕ → ℝ
  /-- the taps' bias -/
  cb : ℕ → ℝ
  /-- the step sizes' bias -/
  tb : ℕ → ℝ
  /-- the logarithms of the decay rates -/
  al : ℕ → ℝ

/-- `v` times its logistic. -/
def silu (v : ℝ) : ℝ := v * (1 + Real.exp (-v))⁻¹

/-- `log (1 + exp v)`, in the form that does not overflow. -/
def softplus (v : ℝ) : ℝ := max v 0 + Real.log (1 + Real.exp (0 - |v|))

/-- The softplus is nowhere negative. -/
theorem softplus_nonneg (v : ℝ) : 0 ≤ softplus v :=
  add_nonneg (le_max_right _ _) (Real.log_nonneg (by linarith [Real.exp_pos (0 - |v|)]))

namespace Par

variable (P : Par) (b : ℕ)

/-- The projection of one row. -/
def proj (t e : ℕ) : ℝ := ∑ k : Fin 1024, P.X b t k * P.W k e

/-- Channel `c` before the convolution; zero before the sequence begins (position `i` is time `i - 3`). -/
def padded (i c : ℕ) : ℝ := if 3 ≤ i then P.proj b (i - 3) (2048 + c) else 0

/-- Channel `c` after the convolution. -/
def pre (t c : ℕ) : ℝ :=
  P.padded b t c * P.cw c 0 + P.padded b (t + 1) c * P.cw c 1 + P.padded b (t + 2) c * P.cw c 2
    + P.padded b (t + 3) c * P.cw c 3 + P.cb c

/-- Channel `c` after the convolution and its activation. -/
def cv (t c : ℕ) : ℝ := silu (P.pre b t c)

/-- The step size of head `h`. -/
def dt (t h : ℕ) : ℝ := softplus (P.proj b t (4224 + h) + P.tb h)

/-- The decay exponent of head `h`. -/
def α (t h : ℕ) : ℝ := P.dt b t h * -Real.exp (P.al h)

/-- The decay exponents are nowhere positive. -/
theorem α_le (t h : ℕ) : P.α b t h ≤ 0 :=
  mul_nonpos_of_nonneg_of_nonpos (softplus_nonneg _) (neg_nonpos.mpr (Real.exp_pos _).le)

/-- The state of column `κ` and state index `n` after `t` steps. -/
def H (κ n t : ℕ) : ℝ := state (P.dt b) (P.α b) (P.cv b) (fun _ _ => 0) κ n t

/-- The state read out at time `t`. -/
def y (t κ : ℕ) : ℝ := ∑ n : Fin 64, P.cv b t (2112 + n.val) * P.H b κ n (t + 1)

/-- The gate. -/
def z (t κ : ℕ) : ℝ := silu (P.proj b t κ)

/-- The gated row, with skip weights `D` by head. -/
def u (D : ℕ → EReal) (t κ : ℕ) : EReal := ((P.y b t κ : EReal) + (P.cv b t κ : EReal) * D (κ / 64)) * (P.z b t κ : EReal)

/-- The normalised row. -/
def row (D nw : ℕ → EReal) (t κ : ℕ) : EReal :=
  P.u b D t κ
    * Ideal.rsqrt (Ideal.div (∑ k : Fin 2048, P.u b D t k * P.u b D t k) (Ideal.ofBits .f32 0x45000000#32)
        + Ideal.ofBits .f32 0x3727C5AC#32) * nw κ

/-- The result. -/
def out (D nw : ℕ → EReal) (Wo : ℕ → ℕ → EReal) (t d : ℕ) : EReal := ∑ κ : Fin 2048, P.row b D nw t κ * Wo κ d

end Par

end Cert.Spec
-- ==== Proof.Eval.lean ====
/- The vector expressions of `Block`, read over the extended reals at an index. Where every operand is a real number they
   are the pieces of the linear recurrence of `Scan`. -/
module

public import proofs.«01_k».proof.Proof.Block
public import proofs.«01_k».proof.Proof.Spec
public import Idealize.ShloMosaic.Lib.Pointwise

@[expose] public section

set_option maxRecDepth 16384

noncomputable section

namespace Cert.KernelIdeal.Eval

open Idealize.ShloMosaic Idealize.SL.Sem
open Cert.KernelIdeal Cert.KernelIdeal.Gen Cert.KernelIdeal.Block
open Cert.Scan (scan cum state)
open Cert.Spec (coe_sum coe_min)

/-- Comparing two small row numbers. -/
theorem cmp_sge (i j : Fin 64) :
    IntOp.cmpi .sge (BitVec.ofNat 32 i.val) (BitVec.ofNat 32 j.val) = if j.val ≤ i.val then 1#1 else 0#1 := by
  decide +revert

/-- Comparing two small row numbers, the other way. -/
theorem cmp_sle (i j : Fin 64) :
    IntOp.cmpi .sle (BitVec.ofNat 32 i.val) (BitVec.ofNat 32 j.val) = if i.val ≤ j.val then 1#1 else 0#1 := by
  decide +revert

/-- The triangle of ones. -/
theorem tri (i j : Fin 64) : k0_pay15 (F := Ideal) (ix2 i j) = ((if j.val ≤ i.val then 1 else 0 : ℝ) : EReal) := by
  pointwise [k0_pay15, k0_pay14]
  rw [cmp_sge]
  split <;> simp [FloatOps.sitofp]

/-- The transposed triangle of ones. -/
theorem triRow (i j : Fin 64) :
    k0_pay16 (F := Ideal) (iota .tc S64x64 32 [0] iota_S64x64_d0_w32) (iota .tc S64x64 32 [1] iota_S64x64_d1_w32)
      (ix2 i j) = ((if i.val ≤ j.val then 1 else 0 : ℝ) : EReal) := by
  pointwise [k0_pay16]
  rw [cmp_sle]
  split <;> simp [FloatOps.sitofp]

/-- The running sum down a subchunk is a prefix sum. -/
theorem prefix_sum (f : ℕ → ℝ) (s : ℕ) (i : Fin 64) :
    ∑ x : Fin 64, (if x.val ≤ i.val then 1 else 0 : ℝ) * f (s + x.val) = cum f s (i.val + 1) := by
  rw [cum, ← Scan.sum_le i.val i.isLt fun l => f (s + l)]
  exact Finset.sum_congr rfl fun x _ => by split <;> simp

/-- The operands of one grid point, read as reals: step sizes `dt`, decay exponents `α`, convolved rows `X` (the inputs,
    then the input projections, then the output projections), and the state `H0` at entry by column and state index. -/
structure Reads (b : Blk Ideal) (dt α X H0 : ℕ → ℕ → ℝ) : Prop where
  /-- step sizes -/
  dt : ∀ (r : Fin 512) (h : Fin 32), b.dt (ix2 r h) = (dt r h : EReal)
  /-- decay exponents -/
  a : ∀ (r : Fin 512) (h : Fin 32), b.a (ix2 r h) = (α r h : EReal)
  /-- none of which is positive -/
  neg : ∀ r h, α r h ≤ 0
  /-- the head table -/
  e : ∀ (h : Fin 32) (k : Fin 2048), b.e (ix2 h k) = ((if k.val / 64 = h.val then 1 else 0 : ℝ) : EReal)
  /-- input projections -/
  B : ∀ (s : Fin 8) (i n : Fin 64), b.B s (ix2 i n) = (X (64 * s.val + i.val) (2048 + n.val) : EReal)
  /-- output projections -/
  C : ∀ (s : Fin 8) (i n : Fin 64), b.C s (ix2 i n) = (X (64 * s.val + i.val) (2112 + n.val) : EReal)
  /-- inputs -/
  x : ∀ (s g : Fin 8) (i : Fin 64) (q : Fin 256),
    b.x s g (ix2 i q) = (X (64 * s.val + i.val) (256 * g.val + q.val) : EReal)
  /-- the state at entry -/
  s0 : ∀ (g : Fin 8) (n : Fin 64) (q : Fin 256), b.s0 g (ix3 0 n q) = (H0 (256 * g.val + q.val) n : EReal)

variable {b : Blk Ideal} {dt α X H0 : ℕ → ℕ → ℝ}

namespace Reads

variable (r : Reads b dt α X H0)

include r

/-- The head table repeats a row's number for a head over the head's columns. -/
theorem rep {v : FVec Ideal S64x32 .f32} {w : Fin 64 → ℕ → ℝ} (hv : ∀ i (h : Fin 32), v (ix2 i h) = (w i h : EReal))
    (i : Fin 64) (k : Fin 2048) : b.rep v (ix2 i k) = (w i (k.val / 64) : EReal) := by
  pointwise [Blk.rep, Blk.ev, k0_pay17]
  simp only [hv, r.e, ← EReal.coe_mul, ← coe_sum]
  congr 1
  have hk : k.val / 64 < 32 := by omega
  rw [Finset.sum_eq_single (⟨k.val / 64, hk⟩ : Fin 32)]
  · simp
  · intro x _ hx
    rw [if_neg fun e => hx (Fin.ext e.symm), mul_zero]
  · intro h; exact absurd (Finset.mem_univ _) h

/-- Running sums by column. -/
theorem cumCol (s : Fin 8) (i : Fin 64) (h : Fin 32) :
    b.cumCol s (ix2 i h) = (cum (fun t => α t h) (64 * s.val) (i.val + 1) : EReal) := by
  pointwise [Blk.cumCol, Blk.asub]
  simp only [tri, r.a, ← EReal.coe_mul, ← coe_sum]
  exact congrArg _ (prefix_sum (fun t => α t h) (64 * s.val) i)

/-- Running sums by row. -/
theorem cumRow (s : Fin 8) (i : Fin 64) (h : Fin 32) :
    b.cumRow s (ix2 h i) = (cum (fun t => α t h) (64 * s.val) (i.val + 1) : EReal) := by
  pointwise [Blk.cumRow, Blk.asub]
  have e (x : Fin 64) := triRow x i
  simp only [r.a]
  refine Eq.trans (Finset.sum_congr rfl fun x _ => congrArg _ (e x)) ?_
  simp only [← EReal.coe_mul, ← coe_sum, mul_comm (α _ _)]
  exact congrArg _ (prefix_sum (fun t => α t h) (64 * s.val) i)

/-- Step sizes of a subchunk. -/
theorem dts (s : Fin 8) (i : Fin 64) (h : Fin 32) : b.dts s (ix2 i h) = (dt (64 * s.val + i.val) h : EReal) := by
  pointwise [Blk.dts]
  exact r.dt _ _

/-- Decays from the subchunk's start. -/
theorem ecol (s : Fin 8) (i : Fin 64) (k : Fin 2048) :
    b.rep (exp (b.cumCol s)) (ix2 i k)
      = (Real.exp (cum (fun t => α t (k.val / 64)) (64 * s.val) (i.val + 1)) : EReal) :=
  r.rep (w := fun i h => Real.exp (cum (fun t => α t h) (64 * s.val) (i.val + 1)))
    (fun i h => by pointwise; rw [r.cumCol, Ideal.exp_coe]) i k

/-- Step sizes with the decay to the subchunk's last row. -/
theorem dlast (s : Fin 8) (i : Fin 64) (k : Fin 2048) :
    b.rep (mulf (b.dts s) (b.toLast s)) (ix2 i k)
      = (dt (64 * s.val + i.val) (k.val / 64) * Real.exp (cum (fun t => α t (k.val / 64)) (64 * s.val) 64
          - cum (fun t => α t (k.val / 64)) (64 * s.val) (i.val + 1)) : ℝ) :=
  r.rep (w := fun i h => dt (64 * s.val + i.val) h * Real.exp (cum (fun t => α t h) (64 * s.val) 64
      - cum (fun t => α t h) (64 * s.val) (i.val + 1)))
    (fun i h => by
      pointwise [Blk.toLast]
      rw [r.cumCol, r.cumCol, r.dts, ← EReal.coe_sub, Ideal.exp_coe, ← EReal.coe_mul]
      rfl) i k

/-- One round takes the recurrence 64 steps on. -/
theorem snew (s g : Fin 8) {V : Vec Ideal S1x64x256 .f32}
    (hV : ∀ (n : Fin 64) (q : Fin 256), V (ix3 0 n q) = (state dt α X H0 (256 * g.val + q.val) n (64 * s.val) : EReal))
    (n : Fin 64) (q : Fin 256) :
    b.snew s g V (ix3 0 n q) = (state dt α X H0 (256 * g.val + q.val) n (64 * s.val + 64) : EReal) := by
  pointwise [Blk.snew, Blk.mat, Blk.ecol]
  rw [r.ecol, hV]
  simp only [r.B, r.x, r.dlast, ← EReal.coe_mul, ← coe_sum, ← EReal.coe_add]
  refine congrArg _ ?_
  rw [Scan.state, ← Scan.last]
  simp only [mul_assoc]
  rfl

/-- What one round's rows read: the recurrence after each row's own step, summed against the row's output projection. -/
theorem ypiece (s g : Fin 8) (j : Fin 4) {V : Vec Ideal S1x64x256 .f32}
    (hV : ∀ (n : Fin 64) (q : Fin 256), V (ix3 0 n q) = (state dt α X H0 (256 * g.val + q.val) n (64 * s.val) : EReal))
    (i p : Fin 64) :
    b.ypiece s g j V (ix2 i p) = ((∑ n : Fin 64, X (64 * s.val + i.val) (2112 + n.val)
      * state dt α X H0 (256 * g.val + (64 * j.val + p.val)) n (64 * s.val + i.val + 1) : ℝ) : EReal) := by
  pointwise [Blk.ypiece, Blk.xw, Blk.yint, Blk.wts, Blk.cbm, Blk.mat, Blk.ecol, k0_pay14]
  have hh : (256 * g.val + (64 * j.val + p.val)) / 64 = 4 * g.val + j.val := by omega
  simp only [r.ecol, hV, r.B, r.C, r.x, r.cumCol, r.cumRow, r.rep (r.dts s), cmp_sge,
    ← EReal.coe_mul, ← coe_sum, ← EReal.coe_sub, ← EReal.coe_zero, ← coe_min, Ideal.exp_coe]
  have key := Scan.read (α := fun t => α t ((256 * g.val + (64 * j.val + p.val)) / 64)) (fun t => r.neg _ _)
    (fun t => X t (256 * g.val + (64 * j.val + p.val)) * dt t ((256 * g.val + (64 * j.val + p.val)) / 64))
    (fun t n => X t (2048 + n.val)) (fun n => X (64 * s.val + i.val) (2112 + n.val))
    (fun n => H0 (256 * g.val + (64 * j.val + p.val)) n) (64 * s.val) i.val i.isLt
  refine Eq.trans ?_ (congrArg Real.toEReal key)
  rw [EReal.coe_add, coe_sum]
  refine congrArg₂ _ (Finset.sum_congr rfl fun x _ => ?_) rfl
  rw [hh]
  by_cases hx : x.val ≤ i.val
  · rw [if_pos hx, if_pos hx]; rfl
  · rw [if_neg hx, if_neg hx]; rfl

/-- A state slot before subchunk `k`. -/
theorem st (g : Fin 8) (k : ℕ) (hk : k ≤ 8) (n : Fin 64) (q : Fin 256) :
    b.st g k (ix3 0 n q) = (state dt α X H0 (256 * g.val + q.val) n (64 * k) : EReal) := by
  induction k generalizing n q with
  | zero => exact r.s0 g n q
  | succ k ih =>
    have h : k < 8 := hk
    rw [Blk.st, dif_pos h]
    exact r.snew ⟨k, h⟩ g (fun n q => ih (by omega) n q) n q

/-- The output buffer after all rounds. -/
theorem Y (t : Fin 512) (κ : Fin 2048) :
    b.Y (ix2 t κ) = ((∑ n : Fin 64, X t (2112 + n.val) * state dt α X H0 κ n (t.val + 1) : ℝ) : EReal) := by
  have hs : t.val / 64 < 8 := by omega
  have hg : κ.val / 256 < 8 := by omega
  have hj : κ.val / 64 % 4 < 4 := by omega
  have hi : t.val % 64 < 64 := by omega
  have hp : κ.val % 64 < 64 := by omega
  refine Eq.trans (b.Y_eq (ix2 t κ) ⟨_, hs⟩ ⟨_, hg⟩ ⟨_, hj⟩ rfl rfl rfl) ?_
  have e := r.ypiece ⟨_, hs⟩ ⟨_, hg⟩ ⟨_, hj⟩ (fun n q => r.st ⟨_, hg⟩ _ hs.le n q) ⟨_, hi⟩ ⟨_, hp⟩
  have h1 : 64 * (t.val / 64) + t.val % 64 = t.val := by omega
  have h2 : 256 * (κ.val / 256) + (64 * (κ.val / 64 % 4) + κ.val % 64) = κ.val := by omega
  dsimp only at e
  rw [h1, h2] at e
  refine Eq.trans (congrArg _ ?_) e
  rw [eq_ix2 (loc (ix2 t κ))]
  rfl

/-- The state after all rounds. -/
theorem S (g : Fin 8) (n : Fin 64) (q : Fin 256) :
    b.S (ix3 g n q) = (state dt α X H0 (256 * g.val + q.val) n 512 : EReal) := by
  refine Eq.trans ?_ (r.st g 8 (le_refl 8) n q)
  exact congrArg (b.st g 8) (funext fun a => match a with
    | ⟨0, _⟩ => rfl
    | ⟨1, _⟩ => rfl
    | ⟨2, _⟩ => rfl)

end Reads

end Cert.KernelIdeal.Eval
-- ==== Proof.RunA.lean ====
/- A grid point that begins a sequence (the first case of the frame run): the writes it makes are the sixty-four
   rounds of `Block`, on the zero state it writes first. -/
module

public import proofs.«01_k».proof.Proof.Block
public import proofs.«01_k».proof.Proof.Gen.KernelIdeal.Frame.RunA

@[expose] public section

set_option maxRecDepth 16384

noncomputable section

namespace Cert.KernelIdeal.RunA

open Idealize.ShloMosaic Idealize.ShloMosaic.TcCoe Idealize.SL.Sem
open Cert.KernelIdeal Cert.KernelIdeal.Gen Cert.KernelIdeal.Block

variable {F : FTy → Type} [FloatOps F]

variable (c : Dev nD) (arg2 : Memref sig .tc .vmem S512x1024 .f32) (harg2 : arg2.IsWhole)
  (arg3 : Memref sig .tc .vmem S1024x4256 .bf16) (harg3 : arg3.IsWhole)
  (arg4 : Memref sig .tc .vmem S4x2176 .f32) (harg4 : arg4.IsWhole)
  (arg5 : Memref sig .tc .vmem S1x2176 .f32) (harg5 : arg5.IsWhole)
  (arg6 : Memref sig .tc .vmem S1x32 .f32) (harg6 : arg6.IsWhole)
  (arg7 : Memref sig .tc .vmem S1x32 .f32) (harg7 : arg7.IsWhole)
  (arg8 : Memref sig .tc .vmem S32x2048 .bf16) (harg8 : arg8.IsWhole)
  (arg13 : Memref sig .tc .vmem S8x2176 .f32)
  (arg14 : Memref sig .tc .vmem S8x64x256 .f32)
  (arg15 : Memref sig .tc .vmem S512x2176 .f32)
  (x0 : Vec F S512x1024 .f32) (x1 : Vec F S1024x4256 .bf16) (x2 : Vec F S4x2176 .f32) (x3 : Vec F S1x2176 .f32)
  (x4 : Vec F S1x32 .f32) (x5 : Vec F S1x32 .f32) (x6 : Vec F S32x2048 .bf16)

/-- What the rounds read at such a point. -/
def rounds : Blk F where
  dt := kernelRun0_A.sl.r c arg2 harg2 arg3 harg3 arg6 harg6 x0 x1 x4
  a := kernelRun0_A.sl.r_5 c arg2 harg2 arg3 harg3 arg6 harg6 arg7 harg7 x0 x1 x4 x5
  e := View.readAt (Elt F) arg8.view (Rect.unit ![0, 0] S32x2048.size inb_S32x2048_S32x2048_0_0).toLoadRect (harg8.unread x6)
  B := fun s => arg15.view.readCov (kernelRun0_A.sl.HS2_1 c arg2 harg2 arg3 harg3 arg4 harg4 arg5 harg5 arg13 x0 x1 x2 x3)
    (recB s).toLoadRect
  C := fun s => arg15.view.readCov (kernelRun0_A.sl.HS2_1 c arg2 harg2 arg3 harg3 arg4 harg4 arg5 harg5 arg13 x0 x1 x2 x3)
    (recC s).toLoadRect
  x := fun s g => arg15.view.readCov (kernelRun0_A.sl.HS2_1 c arg2 harg2 arg3 harg3 arg4 harg4 arg5 harg5 arg13 x0 x1 x2 x3)
    (recX s g).toLoadRect
  s0 := fun g => arg14.view.readCov kernelRun0_A.sl.HS1_1 (slot g).toLoadRect

/-- Before any round every slot holds what was written at entry. -/
theorem inv_zero : Inv (rounds c arg2 harg2 arg3 harg3 arg4 harg4 arg5 harg5 arg6 harg6 arg7 harg7 arg8 harg8 arg13 arg14
      arg15 x0 x1 x2 x3 x4 x5 x6) True 0 kernelRun0_A.sl.HS1_1 [] := by
  refine ⟨fun g _ => ?_, fun y h => absurd h (Nat.not_lt_zero _)⟩
  have hk : (0 + 7 - g.val) / 8 = 0 := by omega
  rw [hk, Blk.st]
  exact (View.readCov_eq_canon' arg14.view _ _).symm

set_option maxHeartbeats 4000000 in
/-- The writes of the point's rounds leave the states and the rows of `Block`. -/
theorem inv (p : Vec F S1x64x256 .f32)
    (hp : p = (rounds c arg2 harg2 arg3 harg3 arg4 harg4 arg5 harg5 arg6 harg6 arg7 harg7 arg8 harg8 arg13 arg14
      arg15 x0 x1 x2 x3 x4 x5 x6).snew 7 7 (arg14.view.readCov
        (kernelRun0_A.sl.HS1_64 c arg2 harg2 arg3 harg3 arg4 harg4 arg5 harg5 arg6 harg6 arg7 harg7 arg8 harg8 arg13 arg14
      arg15 x0 x1 x2 x3 x4 x5 x6) (slot 7).toLoadRect)) :
    Inv (rounds c arg2 harg2 arg3 harg3 arg4 harg4 arg5 harg5 arg6 harg6 arg7 harg7 arg8 harg8 arg13 arg14
      arg15 x0 x1 x2 x3 x4 x5 x6) True 64
    (⟨slot 7, p⟩ :: kernelRun0_A.sl.HS1_64 c arg2 harg2 arg3 harg3 arg4 harg4 arg5 harg5 arg6 harg6 arg7 harg7 arg8 harg8 arg13 arg14
      arg15 x0 x1 x2 x3 x4 x5 x6)
    (kernelRun0_A.sl.HS4_256 c arg2 harg2 arg3 harg3 arg4 harg4 arg5 harg5 arg6 harg6 arg7 harg7 arg8 harg8 arg13 arg14
      arg15 x0 x1 x2 x3 x4 x5 x6) := by
  unfold kernelRun0_A.sl.HS4_256
  refine inv_read (n := 63) (v := arg14.view) (by decide) (.inl trivial) ?_ hp (by sl_kernel_rfl) (by sl_kernel_rfl) (by sl_kernel_rfl) (by sl_kernel_rfl)
  iterate 63 refine inv_read (v := arg14.view) (by decide) (.inl trivial) ?_ (by sl_kernel_rfl) (by sl_kernel_rfl) (by sl_kernel_rfl) (by sl_kernel_rfl) (by sl_kernel_rfl)
  exact inv_zero c arg2 harg2 arg3 harg3 arg4 harg4 arg5 harg5 arg6 harg6 arg7 harg7 arg8 harg8 arg13 arg14
      arg15 x0 x1 x2 x3 x4 x5 x6

end Cert.KernelIdeal.RunA

end
-- ==== Proof.RunB.lean ====
/- A grid point that continues a sequence (the second case of the frame run): the writes it makes are the sixty-four
   rounds of `Block`, on the state it finds. -/
module

public import proofs.«01_k».proof.Proof.Block
public import proofs.«01_k».proof.Proof.Gen.KernelIdeal.Frame.RunB

@[expose] public section

set_option maxRecDepth 16384

noncomputable section

namespace Cert.KernelIdeal.RunB

open Idealize.ShloMosaic Idealize.ShloMosaic.TcCoe Idealize.SL.Sem
open Cert.KernelIdeal Cert.KernelIdeal.Gen Cert.KernelIdeal.Block

variable {F : FTy → Type} [FloatOps F]

variable (c : Dev nD) (arg2 : Memref sig .tc .vmem S512x1024 .f32) (harg2 : arg2.IsWhole)
  (arg3 : Memref sig .tc .vmem S1024x4256 .bf16) (harg3 : arg3.IsWhole)
  (arg4 : Memref sig .tc .vmem S4x2176 .f32) (harg4 : arg4.IsWhole)
  (arg5 : Memref sig .tc .vmem S1x2176 .f32) (harg5 : arg5.IsWhole)
  (arg6 : Memref sig .tc .vmem S1x32 .f32) (harg6 : arg6.IsWhole)
  (arg7 : Memref sig .tc .vmem S1x32 .f32) (harg7 : arg7.IsWhole)
  (arg8 : Memref sig .tc .vmem S32x2048 .bf16) (harg8 : arg8.IsWhole)
  (arg13 : Memref sig .tc .vmem S8x2176 .f32) (harg13 : arg13.IsWhole)
  (arg14 : Memref sig .tc .vmem S8x64x256 .f32) (harg14 : arg14.IsWhole)
  (arg15 : Memref sig .tc .vmem S512x2176 .f32)
  (x0 : Vec F S512x1024 .f32) (x1 : Vec F S1024x4256 .bf16) (x2 : Vec F S4x2176 .f32) (x3 : Vec F S1x2176 .f32)
  (x4 : Vec F S1x32 .f32) (x5 : Vec F S1x32 .f32) (x6 : Vec F S32x2048 .bf16)
  (xs0 : Vec F S8x2176 .f32) (xs1 : Vec F S8x64x256 .f32)

/-- What the rounds read at such a point. -/
def rounds : Blk F where
  dt := kernelRun0_B.sl.r c arg2 harg2 arg3 harg3 arg6 harg6 x0 x1 x4
  a := kernelRun0_B.sl.r_6 c arg2 harg2 arg3 harg3 arg6 harg6 arg7 harg7 x0 x1 x4 x5
  e := View.readAt (Elt F) arg8.view (Rect.unit ![0, 0] S32x2048.size inb_S32x2048_S32x2048_0_0).toLoadRect (harg8.unread x6)
  B := fun s => arg15.view.readCov (kernelRun0_B.sl.HS2_1 c arg2 harg2 arg3 harg3 arg4 harg4 arg5 harg5 arg13 harg13 x0 x1 x2 x3 xs0)
    (recB s).toLoadRect
  C := fun s => arg15.view.readCov (kernelRun0_B.sl.HS2_1 c arg2 harg2 arg3 harg3 arg4 harg4 arg5 harg5 arg13 harg13 x0 x1 x2 x3 xs0)
    (recC s).toLoadRect
  x := fun s g => arg15.view.readCov (kernelRun0_B.sl.HS2_1 c arg2 harg2 arg3 harg3 arg4 harg4 arg5 harg5 arg13 harg13 x0 x1 x2 x3 xs0)
    (recX s g).toLoadRect
  s0 := fun g => View.readAt (Elt F) arg14.view (slot g).toLoadRect (harg14.unread xs1)

/-- Before any round nothing is claimed. -/
theorem inv_zero (b : Blk F) : Inv b False 0 [] [] :=
  ⟨fun g h => h.elim False.elim fun h => absurd h (Nat.not_lt_zero _), fun y h => absurd h (Nat.not_lt_zero _)⟩

set_option maxHeartbeats 4000000 in
/-- The writes of the point's rounds leave the states and the rows of `Block`. -/
theorem inv (p : Vec F S1x64x256 .f32)
    (hp : p = (rounds c arg2 harg2 arg3 harg3 arg4 harg4 arg5 harg5 arg6 harg6 arg7 harg7 arg8 harg8 arg13 harg13 arg14 harg14
      arg15 x0 x1 x2 x3 x4 x5 x6 xs0 xs1).snew 7 7 (arg14.view.readCov
        (kernelRun0_B.sl.HS1_63 c arg2 harg2 arg3 harg3 arg4 harg4 arg5 harg5 arg6 harg6 arg7 harg7 arg8 harg8 arg13 harg13 arg14 harg14
      arg15 x0 x1 x2 x3 x4 x5 x6 xs0 xs1) (slot 7).toLoadRect)) :
    Inv (rounds c arg2 harg2 arg3 harg3 arg4 harg4 arg5 harg5 arg6 harg6 arg7 harg7 arg8 harg8 arg13 harg13 arg14 harg14
      arg15 x0 x1 x2 x3 x4 x5 x6 xs0 xs1) False 64
    (⟨slot 7, p⟩ :: kernelRun0_B.sl.HS1_63 c arg2 harg2 arg3 harg3 arg4 harg4 arg5 harg5 arg6 harg6 arg7 harg7 arg8 harg8 arg13 harg13 arg14 harg14
      arg15 x0 x1 x2 x3 x4 x5 x6 xs0 xs1)
    (kernelRun0_B.sl.HS4_256 c arg2 harg2 arg3 harg3 arg4 harg4 arg5 harg5 arg6 harg6 arg7 harg7 arg8 harg8 arg13 harg13 arg14 harg14
      arg15 x0 x1 x2 x3 x4 x5 x6 xs0 xs1) := by
  unfold kernelRun0_B.sl.HS4_256
  refine inv_read (n := 63) (v := arg14.view) (by decide) (.inr (by decide)) ?_ hp (by sl_kernel_rfl) (by sl_kernel_rfl) (by sl_kernel_rfl) (by sl_kernel_rfl)
  iterate 55 refine inv_read (v := arg14.view) (by decide) (.inr (by decide)) ?_ (by sl_kernel_rfl) (by sl_kernel_rfl) (by sl_kernel_rfl) (by sl_kernel_rfl) (by sl_kernel_rfl)
  iterate 8 refine inv_first (by decide) ?_ (by sl_kernel_rfl) (by sl_kernel_rfl) (by sl_kernel_rfl) (by sl_kernel_rfl) (by sl_kernel_rfl)
  exact inv_zero _

end Cert.KernelIdeal.RunB

end
-- ==== Proof.Point.lean ====
/- One grid point of the kernel as a function of its ten input blocks and of the two scratches it finds: what it writes
   back and what it leaves for the next point. -/
module

public import proofs.«01_k».proof.Proof.RunA
public import proofs.«01_k».proof.Proof.RunB
public import proofs.«01_k».proof.Proof.Gen.KernelIdeal.Frame
public import Idealize.ShloMosaic.Lib.Pipeline.Value

@[expose] public section

set_option maxRecDepth 16384
set_option maxHeartbeats 1000000

noncomputable section

namespace Cert.KernelIdeal.Point

open Idealize.ShloMosaic Idealize.ShloMosaic.TcCoe Idealize.SL.Sem
open Cert.KernelIdeal Cert.KernelIdeal.Gen Cert.KernelIdeal.Block

variable {F : FTy → Type} [FloatOps F]

/-- Two zero offsets. -/
theorem zero2 : (![0, 0] : Fin 2 → ℕ) = fun _ => 0 := by funext a; fin_cases a <;> rfl

/-- Three zero offsets. -/
theorem zero3 : (![0, 0, 0] : Fin 3 → ℕ) = fun _ => 0 := by funext a; fin_cases a <;> rfl

/-- A read of a rectangle under a list of writes is the rectangle of what the writes leave. -/
theorem readCov_ld {κ : Kind} {sp : Space} {s : Shape} {e : EltTy} (v : View sig κ sp s e)
    (L : List (View.Piece (Elt F) s e)) (r : Rect s) : v.readCov L r.toLoadRect = View.ld (View.canon L) r :=
  View.readCov_eq_canon' v L r.toLoadRect

/-- A whole matrix read is the matrix. -/
theorem ld2 {n0 n1 : ℕ} {e : EltTy} (X : Vec F ⟨2, ![n0, n1]⟩ e)
    (inb : ∀ a, (![0, 0] : Fin 2 → ℕ) a + (![n0, n1] : Fin 2 → ℕ) a ≤ (⟨2, ![n0, n1]⟩ : Shape).size a) :
    View.ld (Val := Elt F) X (Rect.unit (s := ⟨2, ![n0, n1]⟩) ![0, 0] ![n0, n1] inb) = X :=
  View.ld_unit_zero zero2 inb X

/-- A whole matrix written is the matrix, whatever was there. -/
theorem canon2 {n0 n1 : ℕ} {e : EltTy} (X : Vec F ⟨2, ![n0, n1]⟩ e) (L : List (View.Piece (Elt F) ⟨2, ![n0, n1]⟩ e))
    (inb : ∀ a, (![0, 0] : Fin 2 → ℕ) a + (![n0, n1] : Fin 2 → ℕ) a ≤ (⟨2, ![n0, n1]⟩ : Shape).size a) :
    View.canon (Val := Elt F) (⟨Rect.unit (s := ⟨2, ![n0, n1]⟩) ![0, 0] ![n0, n1] inb, X⟩ :: L) = X :=
  View.canon_cons_unit_zero zero2 inb X L

/-- The same of a box. -/
theorem canon3 {n0 n1 n2 : ℕ} {e : EltTy} (X : Vec F ⟨3, ![n0, n1, n2]⟩ e) (L : List (View.Piece (Elt F) ⟨3, ![n0, n1, n2]⟩ e))
    (inb : ∀ a, (![0, 0, 0] : Fin 3 → ℕ) a + (![n0, n1, n2] : Fin 3 → ℕ) a ≤ (⟨3, ![n0, n1, n2]⟩ : Shape).size a) :
    View.canon (Val := Elt F) (⟨Rect.unit (s := ⟨3, ![n0, n1, n2]⟩) ![0, 0, 0] ![n0, n1, n2] inb, X⟩ :: L) = X :=
  View.canon_cons_unit_zero zero3 inb X L

/-- The rectangle of the 2048 input columns of the convolved rows. -/
abbrev recI : Rect S512x2176 := Rect.unit ![0, 0] S512x2048.size inb_S512x2176_S512x2048_0_0

/-- The block's convolved rows, from its projection, the taps and the rows before it. -/
def conv (x0 : Vec F S512x1024 .f32) (x1 : Vec F S1024x4256 .bf16) (x2 : Vec F S4x2176 .f32) (x3 : Vec F S1x2176 .f32)
    (tail : Vec F S8x2176 .f32) : FVec F S512x2176 .f32 :=
  k0_pay11 (k0_pay5 x0 x1) tail
    (k0_pay8 x0 x1 (View.ld x2 (Rect.unit ![3, 0] S1x2176.size inb_S4x2176_S1x2176_3_0)))
    (k0_pay9 tail) (k0_pay10 x0 x1)
    (View.ld x2 (Rect.unit ![0, 0] S1x2176.size inb_S4x2176_S1x2176_0_0))
    (View.ld x2 (Rect.unit ![1, 0] S1x2176.size inb_S4x2176_S1x2176_1_0))
    (View.ld x2 (Rect.unit ![2, 0] S1x2176.size inb_S4x2176_S1x2176_2_0)) x3

/-- What the rounds of a point read. -/
def pt (x0 : Vec F S512x1024 .f32) (x1 : Vec F S1024x4256 .bf16) (x2 : Vec F S4x2176 .f32) (x3 : Vec F S1x2176 .f32)
    (x4 : Vec F S1x32 .f32) (x5 : Vec F S1x32 .f32) (x6 : Vec F S32x2048 .bf16) (tail : Vec F S8x2176 .f32)
    (st : Vec F S8x64x256 .f32) : Blk F where
  dt := k0_pay4 x0 x1 x4
  a := k0_pay13 (k0_pay4 x0 x1 x4) x5
  e := x6
  B := fun s => View.ld (conv x0 x1 x2 x3 tail) (recB s)
  C := fun s => View.ld (conv x0 x1 x2 x3 tail) (recC s)
  x := fun s g => View.ld (conv x0 x1 x2 x3 tail) (recX s g)
  s0 := fun g => View.ld st (slot g)

/-- What a point writes back. -/
def res (x0 : Vec F S512x1024 .f32) (x1 : Vec F S1024x4256 .bf16) (x2 : Vec F S4x2176 .f32) (x3 : Vec F S1x2176 .f32)
    (x4 : Vec F S1x32 .f32) (x5 : Vec F S1x32 .f32) (x6 : Vec F S32x2048 .bf16) (x7 : Vec F S1x2048 .f32)
    (x8 : Vec F S1x2048 .f32) (x9 : Vec F S2048x1024 .bf16) (tail : Vec F S8x2176 .f32)
    (st : Vec F S8x64x256 .f32) : FVec F S512x1024 .f32 :=
  k0_pay1 (pt x0 x1 x2 x3 x4 x5 x6 tail st).Y (View.ld (conv x0 x1 x2 x3 tail) recI) x7 (k0_pay3 x0 x1) x8 x9

variable (c : Dev nD) (i : grid0.Coords) (arg2 : Memref sig .tc .vmem S512x1024 .f32) (harg2 : arg2.IsWhole)
  (arg3 : Memref sig .tc .vmem S1024x4256 .bf16) (harg3 : arg3.IsWhole)
  (arg4 : Memref sig .tc .vmem S4x2176 .f32) (harg4 : arg4.IsWhole)
  (arg5 : Memref sig .tc .vmem S1x2176 .f32) (harg5 : arg5.IsWhole)
  (arg6 : Memref sig .tc .vmem S1x32 .f32) (harg6 : arg6.IsWhole)
  (arg7 : Memref sig .tc .vmem S1x32 .f32) (harg7 : arg7.IsWhole)
  (arg8 : Memref sig .tc .vmem S32x2048 .bf16) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S2048x1024 .bf16) (harg11 : arg11.IsWhole)
  (arg12 : Memref sig .tc .vmem S512x1024 .f32) (harg12 : arg12.IsWhole)
  (arg13 : Memref sig .tc .vmem S8x2176 .f32) (harg13 : arg13.IsWhole)
  (arg14 : Memref sig .tc .vmem S8x64x256 .f32) (harg14 : arg14.IsWhole)
  (arg15 : Memref sig .tc .vmem S512x2176 .f32) (harg15 : arg15.IsWhole)
  (arg16 : Memref sig .tc .vmem S512x2048 .f32) (harg16 : arg16.IsWhole)
  (arg17 : Memref sig .tc .vmem S512x2048 .f32) (harg17 : arg17.IsWhole)
  (x0 : Vec F S512x1024 .f32) (x1 : Vec F S1024x4256 .bf16) (x2 : Vec F S4x2176 .f32) (x3 : Vec F S1x2176 .f32)
  (x4 : Vec F S1x32 .f32) (x5 : Vec F S1x32 .f32) (x6 : Vec F S32x2048 .bf16) (x7 : Vec F S1x2048 .f32)
  (x8 : Vec F S1x2048 .f32) (x9 : Vec F S2048x1024 .bf16)
  (xs0 : Vec F S8x2176 .f32) (xs1 : Vec F S8x64x256 .f32)

/-- At a point that begins a sequence, the convolved rows' scratch holds `conv`. -/
theorem canon2_A : View.canon (kernelRun0_A.sl.HS2_1 c arg2 harg2 arg3 harg3 arg4 harg4 arg5 harg5 arg13 x0 x1 x2 x3) = conv x0 x1 x2 x3 k0_pay6 := by
  unfold kernelRun0_A.sl.HS2_1
  refine (canon2 _ [] _).trans ?_
  simp only [kernelRun0_A.sl.r_1, kernelRun0_A.sl.r_2, kernelRun0_A.sl.r_3, kernelRun0_A.sl.r_4, kernelRun0_A.sl.v31, kernelRun0_A.sl.HS0_1, View.readAt_eq_ld, Memref.IsWhole.read_unread,
    readCov_ld, canon2, ld2]
  rfl

/-- What the rounds read at a point that begins a sequence. -/
theorem rounds_A : RunA.rounds c arg2 harg2 arg3 harg3 arg4 harg4 arg5 harg5 arg6 harg6 arg7 harg7 arg8 harg8 arg13 arg14 arg15 x0 x1 x2 x3 x4 x5 x6 = pt x0 x1 x2 x3 x4 x5 x6 k0_pay6 k0_pay7 := by
  unfold RunA.rounds pt
  simp only [kernelRun0_A.sl.r, kernelRun0_A.sl.r_5, kernelRun0_A.sl.HS1_1, View.readAt_eq_ld, Memref.IsWhole.read_unread, readCov_ld, canon2_A,
    canon3, ld2]

/-- The rounds' writes at a point that begins a sequence. -/
theorem inv_A (hc0 : cond0_0 i) : Inv (pt x0 x1 x2 x3 x4 x5 x6 k0_pay6 k0_pay7) True 64
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 ).2.2.1 (kernelRun0_A.sl.HS4_256 c arg2 harg2 arg3 harg3 arg4 harg4 arg5 harg5 arg6 harg6 arg7 harg7 arg8 harg8 arg13 arg14 arg15 x0 x1 x2 x3 x4 x5 x6) := by
  rw [← rounds_A c arg2 harg2 arg3 harg3 arg4 harg4 arg5 harg5 arg6 harg6 arg7 harg7 arg8 harg8 arg13 arg14 arg15 x0 x1 x2 x3 x4 x5 x6]
  exact RunA.inv c arg2 harg2 arg3 harg3 arg4 harg4 arg5 harg5 arg6 harg6 arg7 harg7 arg8 harg8 arg13 arg14 arg15 x0 x1 x2 x3 x4 x5 x6 _ (by sl_kernel_rfl)

/-- What a point that begins a sequence leaves in its output block. -/
theorem out_A (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
      = res x0 x1 x2 x3 x4 x5 x6 x7 x8 x9 k0_pay6 k0_pay7 := by
  unfold out0_A_10
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 ).1 = [⟨Rect.unit ![0, 0] S512x1024.size inb_S512x1024_S512x1024_0_0,
      k0_pay1 (arg17.view.readCov (kernelRun0_A.sl.HS4_256 c arg2 harg2 arg3 harg3 arg4 harg4 arg5 harg5 arg6 harg6 arg7 harg7 arg8 harg8 arg13 arg14 arg15 x0 x1 x2 x3 x4 x5 x6)
          (Rect.unit ![0, 0] S512x2048.size inb_S512x2048_S512x2048_0_0).toLoadRect)
        (arg15.view.readCov (kernelRun0_A.sl.HS2_1 c arg2 harg2 arg3 harg3 arg4 harg4 arg5 harg5 arg13 x0 x1 x2 x3) recI.toLoadRect)
        (View.readAt (Elt F) arg9.view (Rect.unit ![0, 0] S1x2048.size inb_S1x2048_S1x2048_0_0).toLoadRect (harg9.unread x7))
        (arg16.view.readCov (kernelRun0_A.sl.HS3_1 c arg2 harg2 arg3 harg3 x0 x1)
          (Rect.unit ![0, 0] S512x2048.size inb_S512x2048_S512x2048_0_0).toLoadRect)
        (View.readAt (Elt F) arg10.view (Rect.unit ![0, 0] S1x2048.size inb_S1x2048_S1x2048_0_0).toLoadRect (harg10.unread x8))
        (View.readAt (Elt F) arg11.view (Rect.unit ![0, 0] S2048x1024.size inb_S2048x1024_S2048x1024_0_0).toLoadRect
          (harg11.unread x9))⟩] := by sl_kernel_rfl
  refine (congrArg View.canon e).trans ((canon2 _ [] _).trans ?_)
  simp only [readCov_ld, canon2_A, (inv_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9  hc0).canon4]
  simp only [kernelRun0_A.sl.HS3_1, View.readAt_eq_ld, Memref.IsWhole.read_unread, canon2,
    ld2]
  rfl

/-- What it leaves for the next point's convolution: the block's last projected rows. -/
theorem tail_A (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
      = k0_pay12 (k0_pay5 x0 x1) := by
  unfold sout0_A_0
  rw [View.read_writes_junk_eq_canon]
  have e : ∃ w, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 ).2.1 = ⟨Rect.unit ![0, 0] S8x2176.size inb_S8x2176_S8x2176_0_0,
      k0_pay12 (k0_pay5
        (View.readAt (Elt F) arg2.view (Rect.unit ![0, 0] S512x1024.size inb_S512x1024_S512x1024_0_0).toLoadRect (harg2.unread x0))
        (View.readAt (Elt F) arg3.view (Rect.unit ![0, 0] S1024x4256.size inb_S1024x4256_S1024x4256_0_0).toLoadRect
          (harg3.unread x1)))⟩ :: w := ⟨kernelRun0_A.sl.HS0_1, by sl_kernel_rfl⟩
  obtain ⟨w, e⟩ := e
  refine (congrArg View.canon e).trans ((canon2 _ w _).trans ?_)
  simp only [View.readAt_eq_ld, Memref.IsWhole.read_unread, ld2]

/-- What it leaves in the state. -/
theorem state_A (hc0 : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
      = (pt x0 x1 x2 x3 x4 x5 x6 k0_pay6 k0_pay7).S := by
  unfold sout0_A_1
  rw [View.read_writes_junk_eq_canon]
  exact (inv_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9  hc0).canon1

/-- At a point that continues a sequence, the convolved rows' scratch holds `conv`. -/
theorem canon2_B : View.canon (kernelRun0_B.sl.HS2_1 c arg2 harg2 arg3 harg3 arg4 harg4 arg5 harg5 arg13 harg13 x0 x1 x2 x3 xs0) = conv x0 x1 x2 x3 xs0 := by
  unfold kernelRun0_B.sl.HS2_1
  refine (canon2 _ [] _).trans ?_
  simp only [kernelRun0_B.sl.r_1, kernelRun0_B.sl.r_2, kernelRun0_B.sl.r_3, kernelRun0_B.sl.r_4, kernelRun0_B.sl.r_5, View.readAt_eq_ld, Memref.IsWhole.read_unread,
    readCov_ld, canon2, ld2]
  rfl

/-- What the rounds read at a point that continues a sequence. -/
theorem rounds_B : RunB.rounds c arg2 harg2 arg3 harg3 arg4 harg4 arg5 harg5 arg6 harg6 arg7 harg7 arg8 harg8 arg13 harg13 arg14 harg14 arg15 x0 x1 x2 x3 x4 x5 x6 xs0 xs1 = pt x0 x1 x2 x3 x4 x5 x6 xs0 xs1 := by
  unfold RunB.rounds pt
  simp only [kernelRun0_B.sl.r, kernelRun0_B.sl.r_6, View.readAt_eq_ld, Memref.IsWhole.read_unread, readCov_ld, canon2_B,
    canon3, ld2]

/-- The rounds' writes at a point that continues a sequence. -/
theorem inv_B (hc0 : ¬cond0_0 i) : Inv (pt x0 x1 x2 x3 x4 x5 x6 xs0 xs1) False 64
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1).2.2.1 (kernelRun0_B.sl.HS4_256 c arg2 harg2 arg3 harg3 arg4 harg4 arg5 harg5 arg6 harg6 arg7 harg7 arg8 harg8 arg13 harg13 arg14 harg14 arg15 x0 x1 x2 x3 x4 x5 x6 xs0 xs1) := by
  rw [← rounds_B c arg2 harg2 arg3 harg3 arg4 harg4 arg5 harg5 arg6 harg6 arg7 harg7 arg8 harg8 arg13 harg13 arg14 harg14 arg15 x0 x1 x2 x3 x4 x5 x6 xs0 xs1]
  exact RunB.inv c arg2 harg2 arg3 harg3 arg4 harg4 arg5 harg5 arg6 harg6 arg7 harg7 arg8 harg8 arg13 harg13 arg14 harg14 arg15 x0 x1 x2 x3 x4 x5 x6 xs0 xs1 _ (by sl_kernel_rfl)

/-- What a point that continues a sequence leaves in its output block. -/
theorem out_B (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1
      = res x0 x1 x2 x3 x4 x5 x6 x7 x8 x9 xs0 xs1 := by
  unfold out0_B_10
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1).1 = [⟨Rect.unit ![0, 0] S512x1024.size inb_S512x1024_S512x1024_0_0,
      k0_pay1 (arg17.view.readCov (kernelRun0_B.sl.HS4_256 c arg2 harg2 arg3 harg3 arg4 harg4 arg5 harg5 arg6 harg6 arg7 harg7 arg8 harg8 arg13 harg13 arg14 harg14 arg15 x0 x1 x2 x3 x4 x5 x6 xs0 xs1)
          (Rect.unit ![0, 0] S512x2048.size inb_S512x2048_S512x2048_0_0).toLoadRect)
        (arg15.view.readCov (kernelRun0_B.sl.HS2_1 c arg2 harg2 arg3 harg3 arg4 harg4 arg5 harg5 arg13 harg13 x0 x1 x2 x3 xs0) recI.toLoadRect)
        (View.readAt (Elt F) arg9.view (Rect.unit ![0, 0] S1x2048.size inb_S1x2048_S1x2048_0_0).toLoadRect (harg9.unread x7))
        (arg16.view.readCov (kernelRun0_B.sl.HS3_1 c arg2 harg2 arg3 harg3 x0 x1)
          (Rect.unit ![0, 0] S512x2048.size inb_S512x2048_S512x2048_0_0).toLoadRect)
        (View.readAt (Elt F) arg10.view (Rect.unit ![0, 0] S1x2048.size inb_S1x2048_S1x2048_0_0).toLoadRect (harg10.unread x8))
        (View.readAt (Elt F) arg11.view (Rect.unit ![0, 0] S2048x1024.size inb_S2048x1024_S2048x1024_0_0).toLoadRect
          (harg11.unread x9))⟩] := by sl_kernel_rfl
  refine (congrArg View.canon e).trans ((canon2 _ [] _).trans ?_)
  simp only [readCov_ld, canon2_B, (inv_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xs0 xs1 hc0).canon4]
  simp only [kernelRun0_B.sl.HS3_1, View.readAt_eq_ld, Memref.IsWhole.read_unread, canon2,
    ld2]
  rfl

/-- What it leaves for the next point's convolution: the block's last projected rows. -/
theorem tail_B (hc0 : ¬cond0_0 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1
      = k0_pay12 (k0_pay5 x0 x1) := by
  unfold sout0_B_0
  rw [View.read_writes_junk_eq_canon]
  have e : ∃ w, (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1).2.1 = ⟨Rect.unit ![0, 0] S8x2176.size inb_S8x2176_S8x2176_0_0,
      k0_pay12 (k0_pay5
        (View.readAt (Elt F) arg2.view (Rect.unit ![0, 0] S512x1024.size inb_S512x1024_S512x1024_0_0).toLoadRect (harg2.unread x0))
        (View.readAt (Elt F) arg3.view (Rect.unit ![0, 0] S1024x4256.size inb_S1024x4256_S1024x4256_0_0).toLoadRect
          (harg3.unread x1)))⟩ :: w := ⟨[], by sl_kernel_rfl⟩
  obtain ⟨w, e⟩ := e
  refine (congrArg View.canon e).trans ((canon2 _ w _).trans ?_)
  simp only [View.readAt_eq_ld, Memref.IsWhole.read_unread, ld2]

/-- What it leaves in the state. -/
theorem state_B (hc0 : ¬cond0_0 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1
      = (pt x0 x1 x2 x3 x4 x5 x6 xs0 xs1).S := by
  unfold sout0_B_1
  rw [View.read_writes_junk_eq_canon]
  exact (inv_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xs0 xs1 hc0).canon1

end Cert.KernelIdeal.Point

end
-- ==== Proof.PointEval.lean ====
/- One grid point over the extended reals: from operands that hold block `c` of sequence `b` and scratches that hold what the
   earlier blocks left, the point writes back the block's rows of `Spec.Par.out` and leaves what the next block needs. -/
module

public import proofs.«01_k».proof.Proof.Eval
public import proofs.«01_k».proof.Proof.Point

@[expose] public section

set_option maxRecDepth 16384

noncomputable section

namespace Cert.KernelIdeal.PointEval

open Idealize.ShloMosaic Idealize.SL.Sem
open Cert.KernelIdeal Cert.KernelIdeal.Gen Cert.KernelIdeal.Block Cert.KernelIdeal.Point Cert.Spec
open Cert.KernelIdeal.Eval (Reads)

/-- What the ten input blocks hold at block `c` of sequence `b`. -/
structure Ins (P : Par) (D nw : ℕ → EReal) (Wo : ℕ → ℕ → EReal) (b c : ℕ)
    (x0 : Vec Ideal S512x1024 .f32) (x1 : Vec Ideal S1024x4256 .bf16) (x2 : Vec Ideal S4x2176 .f32)
    (x3 : Vec Ideal S1x2176 .f32) (x4 : Vec Ideal S1x32 .f32) (x5 : Vec Ideal S1x32 .f32) (x6 : Vec Ideal S32x2048 .bf16)
    (x7 : Vec Ideal S1x2048 .f32) (x8 : Vec Ideal S1x2048 .f32) (x9 : Vec Ideal S2048x1024 .bf16) : Prop where
  /-- the block's rows -/
  i0 : ∀ (r : Fin 512) (k : Fin 1024), x0 (ix2 r k) = (P.X b (512 * c + r.val) k : EReal)
  /-- the input matrix -/
  i1 : ∀ (k : Fin 1024) (e : Fin 4256), x1 (ix2 k e) = (P.W k e : EReal)
  /-- the taps -/
  i2 : ∀ (k : Fin 4) (e : Fin 2176), x2 (ix2 k e) = (P.cw e k : EReal)
  /-- the taps' bias -/
  i3 : ∀ e : Fin 2176, x3 (ix2 0 e) = (P.cb e : EReal)
  /-- the step sizes' bias -/
  i4 : ∀ h : Fin 32, x4 (ix2 0 h) = (P.tb h : EReal)
  /-- the decay rates -/
  i5 : ∀ h : Fin 32, x5 (ix2 0 h) = ((-Real.exp (P.al h) : ℝ) : EReal)
  /-- the head table -/
  i6 : ∀ (h : Fin 32) (k : Fin 2048), x6 (ix2 h k) = ((if k.val / 64 = h.val then 1 else 0 : ℝ) : EReal)
  /-- the skip weights, over the columns -/
  i7 : ∀ k : Fin 2048, x7 (ix2 0 k) = D (k.val / 64)
  /-- the norm's weights -/
  i8 : ∀ k : Fin 2048, x8 (ix2 0 k) = nw k
  /-- the output matrix -/
  i9 : ∀ (k : Fin 2048) (d : Fin 1024), x9 (ix2 k d) = Wo k d

/-- What the two scratches hold before block `c` of sequence `b`: the last three channel rows, and the state. -/
structure Scr (P : Par) (b c : ℕ) (tail : Vec Ideal S8x2176 .f32) (st : Vec Ideal S8x64x256 .f32) : Prop where
  /-- the channel rows just before the block -/
  tail : ∀ (i : Fin 8) (e : Fin 2176), 5 ≤ i.val → tail (ix2 i e) = (P.padded b (512 * c + (i.val - 5)) e : EReal)
  /-- the state just before the block -/
  st : ∀ (g : Fin 8) (n : Fin 64) (q : Fin 256), st (ix3 g n q) = (P.H b (256 * g.val + q.val) n (512 * c) : EReal)

/-- A sequence begins with zeros. -/
theorem Scr.zero (P : Par) (b : ℕ) : Scr P b 0 (k0_pay6 (F := Ideal)) (k0_pay7 (F := Ideal)) where
  tail i e hi := by
    pointwise [k0_pay6]
    rw [Par.padded, if_neg (by omega), EReal.coe_zero]
  st g n q := by
    pointwise [k0_pay7]
    rfl

namespace Ins

variable {P : Par} {D nw : ℕ → EReal} {Wo : ℕ → ℕ → EReal} {b c : ℕ}
    {x0 : Vec Ideal S512x1024 .f32} {x1 : Vec Ideal S1024x4256 .bf16} {x2 : Vec Ideal S4x2176 .f32}
    {x3 : Vec Ideal S1x2176 .f32} {x4 : Vec Ideal S1x32 .f32} {x5 : Vec Ideal S1x32 .f32} {x6 : Vec Ideal S32x2048 .bf16}
    {x7 : Vec Ideal S1x2048 .f32} {x8 : Vec Ideal S1x2048 .f32} {x9 : Vec Ideal S2048x1024 .bf16}
    {tail : Vec Ideal S8x2176 .f32} {st : Vec Ideal S8x64x256 .f32}
    (I : Ins P D nw Wo b c x0 x1 x2 x3 x4 x5 x6 x7 x8 x9)

include I

/-- The projection. -/
theorem proj (r : Fin 512) (e : Fin 4256) : k0_pay2 x0 x1 (ix2 r e) = (P.proj b (512 * c + r.val) e : EReal) := by
  pointwise [k0_pay2]
  simp only [I.i0, I.i1, ← EReal.coe_mul, ← coe_sum]
  rfl

/-- A channel row of the block. -/
theorem raw (r : Fin 512) (e : Fin 2176) (h : 2048 + e.val < 4256) :
    k0_pay2 x0 x1 (ix2 r ⟨2048 + e.val, h⟩) = (P.padded b (512 * c + r.val + 3) e : EReal) := by
  rw [I.proj, Par.padded, if_pos (by omega), Nat.add_sub_cancel]

/-- The channel row `d` rows before row `r`, out of the block or out of the rows before it. -/
theorem earlier (S : Scr P b c tail st) (d : ℕ) (hd : d ≤ 3) (r : Fin 512) (e : Fin 2176) (h : 2048 + e.val < 4256)
    (h5 : r.val < d → 8 - d + r.val < 8) (h6 : r.val - d < 512) :
    (if h : r.val < d then tail (ix2 ⟨8 - d + r.val, h5 h⟩ e)
      else k0_pay2 x0 x1 (ix2 ⟨r.val - d, h6⟩ ⟨2048 + e.val, ‹_›⟩))
      = (P.padded b (512 * c + r.val + (3 - d)) e : EReal) := by
  split
  · rename_i hr
    rw [S.tail _ _ (by dsimp only; omega)]
    congr 2
    dsimp only; omega
  · rename_i hr
    rw [I.raw]
    congr 2
    dsimp only; omega

/-- The convolved rows. -/
theorem cv (S : Scr P b c tail st) (r : Fin 512) (e : Fin 2176) :
    conv x0 x1 x2 x3 tail (ix2 r e) = (P.cv b (512 * c + r.val) e : EReal) := by
  pointwise [conv, k0_pay11, k0_pay8, k0_pay9, k0_pay10, k0_pay5]
  have h3 := I.earlier S 3 (by omega) r e (by omega) (by omega) (by omega)
  have h2 := I.earlier S 2 (by omega) r e (by omega) (by omega) (by omega)
  have h1 := I.earlier S 1 (by omega) r e (by omega) (by omega) (by omega)
  erw [h3, h2, h1]
  rw [I.raw, I.i2, I.i2, I.i2, I.i2, I.i3]
  simp only [← EReal.coe_mul, ← EReal.coe_add, Ideal.logistic_coe]
  refine congrArg _ ?_
  rw [show P.padded b (512 * c + r.val + 3) e * P.cw e (3 : Fin 4) + P.padded b (512 * c + r.val + (3 - 3)) e * P.cw e (0 : Fin 4)
      + P.padded b (512 * c + r.val + (3 - 2)) e * P.cw e (1 : Fin 4) + P.padded b (512 * c + r.val + (3 - 1)) e * P.cw e (2 : Fin 4)
      + P.cb e = P.pre b (512 * c + r.val) e from by
    unfold Par.pre
    change _ + P.padded b (512 * c + r.val) e * P.cw e 0 + P.padded b (512 * c + r.val + 1) e * P.cw e 1
      + P.padded b (512 * c + r.val + 2) e * P.cw e 2 + _ = _ + P.padded b (512 * c + r.val + 3) e * P.cw e (3 : Fin 4) + _
    ring]
  rfl

/-- The step sizes. -/
theorem dt (r : Fin 512) (h : Fin 32) : k0_pay4 x0 x1 x4 (ix2 r h) = (P.dt b (512 * c + r.val) h : EReal) := by
  pointwise [k0_pay4]
  rw [I.proj, I.i4]
  simp only [Ideal.absf_def, ← EReal.coe_add, ← EReal.coe_neg, ← coe_max, ← EReal.coe_zero, ← EReal.coe_sub,
    Ideal.exp_coe, ← EReal.coe_one]
  rw [Ideal.log_coe, if_neg (by have := Real.exp_pos (0 - max (P.proj b (512 * c + r.val) (4224 + h.val) + P.tb h)
      (-(P.proj b (512 * c + r.val) (4224 + h.val) + P.tb h))); linarith), ← EReal.coe_add]
  rfl

/-- The decay exponents. -/
theorem α (r : Fin 512) (h : Fin 32) :
    k0_pay13 (k0_pay4 x0 x1 x4) x5 (ix2 r h) = (P.α b (512 * c + r.val) h : EReal) := by
  pointwise [k0_pay13]
  rw [I.dt, I.i5, ← EReal.coe_mul]
  rfl

/-- The gate. -/
theorem z (r : Fin 512) (k : Fin 2048) : k0_pay3 x0 x1 (ix2 r k) = (P.z b (512 * c + r.val) k : EReal) := by
  pointwise [k0_pay3]
  rw [I.proj, Ideal.logistic_coe, ← EReal.coe_mul]
  rfl

/-- What the rounds read. -/
theorem reads (S : Scr P b c tail st) : Reads (pt x0 x1 x2 x3 x4 x5 x6 tail st)
    (fun t => P.dt b (512 * c + t)) (fun t => P.α b (512 * c + t)) (fun t => P.cv b (512 * c + t))
    (fun κ n => P.H b κ n (512 * c)) where
  dt r h := I.dt r h
  a r h := I.α r h
  neg r h := P.α_le b _ h
  e h k := I.i6 h k
  B s i n := by
    unfold pt
    pointwise
    exact I.cv S _ _
  C s i n := by
    unfold pt
    pointwise
    exact I.cv S _ _
  x s g i q := by
    unfold pt
    pointwise
    exact I.cv S _ _
  s0 g n q := by
    unfold pt
    pointwise
    exact S.st g n q

/-- The state read out. -/
theorem y (S : Scr P b c tail st) (r : Fin 512) (k : Fin 2048) :
    (pt x0 x1 x2 x3 x4 x5 x6 tail st).Y (ix2 r k) = (P.y b (512 * c + r.val) k : EReal) := by
  rw [(I.reads S).Y]
  refine congrArg _ (Finset.sum_congr rfl fun n _ => congrArg _ ?_)
  exact Scan.state_shift _ _ _ _ _ _ _ _

/-- The block's rows of the result. -/
theorem out (S : Scr P b c tail st) (r : Fin 512) (d : Fin 1024) :
    res x0 x1 x2 x3 x4 x5 x6 x7 x8 x9 tail st (ix2 r d) = P.out b D nw Wo (512 * c + r.val) d := by
  pointwise [res, k0_pay1]
  simp only [I.y S, I.cv S, I.z, I.i7, I.i8, I.i9]
  rfl

/-- What the scratches hold before the next block. -/
theorem next (S : Scr P b c tail st) :
    Scr P b (c + 1) (k0_pay12 (k0_pay5 x0 x1)) (pt x0 x1 x2 x3 x4 x5 x6 tail st).S where
  tail i e hi := by
    pointwise [k0_pay12, k0_pay5]
    rw [I.raw]
    congr 2
    dsimp only; omega
  st g n q := by
    rw [(I.reads S).S]
    exact congrArg _ (Scan.state_shift _ _ _ _ _ _ _ _)

end Ins

end Cert.KernelIdeal.PointEval
-- ==== Proof.Host.lean ====
/- The blocks the kernel's region reads, as the launch arguments: what the host operations before the region leave in each
   operand, and each window's block of it. -/
module

public import proofs.«01_k».proof.Proof.PointEval
public import proofs.«01_k».proof.Proof.Gen.KernelIdeal.Value

@[expose] public section

set_option maxRecDepth 16384

noncomputable section

namespace Cert.KernelIdeal.HostOps

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The rows of the sequences, one under the other. -/
theorem v0 (r : Fin 8192) (k : Fin 1024) :
    V m c main_v0 (ix2 r k)
      = m ((c : Thread nD τ).loc main_arg0) (ix3 ⟨r.val / 2048, by omega⟩ ⟨r.val % 2048, by omega⟩ k) := by
  dsimp only [V, hostOps0, hostOps0_1, hostOps0_2, List.flatten_cons, List.flatten_nil, List.append_nil, List.cons_append,
      List.nil_append]
  after_results
  pointwise

/-- The input matrix. -/
theorem v1 (k : Fin 1024) (e : Fin 4256) :
    V m c main_v1 (ix2 k e) = m ((c : Thread nD τ).loc main_arg1) (ix2 k e) := by
  dsimp only [V, hostOps0, hostOps0_1, hostOps0_2, List.flatten_cons, List.flatten_nil, List.append_nil, List.cons_append,
      List.nil_append]
  after_results
  pointwise

/-- The output matrix. -/
theorem v2 (k : Fin 2048) (d : Fin 1024) :
    V m c main_v2 (ix2 k d) = m ((c : Thread nD τ).loc main_arg8) (ix2 k d) := by
  dsimp only [V, hostOps0, hostOps0_1, hostOps0_2, List.flatten_cons, List.flatten_nil, List.append_nil, List.cons_append,
      List.nil_append]
  after_results
  pointwise

/-- The taps. -/
theorem v3 (k : Fin 4) (e : Fin 2176) : V m c main_v3 (ix2 k e) = m ((c : Thread nD τ).loc main_arg2) (ix2 e k) := by
  dsimp only [V, hostOps0, hostOps0_1, hostOps0_2, List.flatten_cons, List.flatten_nil, List.append_nil, List.cons_append,
      List.nil_append]
  after_results
  pointwise

/-- The taps' bias. -/
theorem v4 (e : Fin 2176) : V m c main_v4 (ix2 0 e) = m ((c : Thread nD τ).loc main_arg3) (ix1 e) := by
  dsimp only [V, hostOps0, hostOps0_1, hostOps0_2, List.flatten_cons, List.flatten_nil, List.append_nil, List.cons_append,
      List.nil_append]
  after_results
  pointwise

/-- The step sizes' bias. -/
theorem v5 (h : Fin 32) : V m c main_v5 (ix2 0 h) = m ((c : Thread nD τ).loc main_arg4) (ix1 h) := by
  dsimp only [V, hostOps0, hostOps0_1, hostOps0_2, List.flatten_cons, List.flatten_nil, List.append_nil, List.cons_append,
      List.nil_append]
  after_results
  pointwise

/-- The decay rates. -/
theorem v8 (h : Fin 32) : V m c main_v8 (ix2 0 h) = - Ideal.exp (m ((c : Thread nD τ).loc main_arg5) (ix1 h)) := by
  dsimp only [V, hostOps0, hostOps0_1, hostOps0_2, List.flatten_cons, List.flatten_nil, List.append_nil, List.cons_append,
      List.nil_append]
  after_results
  pointwise

/-- Equal row numbers, as a bit. -/
theorem cmp_eq (i j : Fin 32) :
    IntOp.cmpi .eq (IntOp.addi (BitVec.ofNat 32 i.val) 0#32) (BitVec.ofNat 32 j.val) = if j.val = i.val then 1#1 else 0#1 := by
  decide +revert

/-- The head table: a row of 64 ones per head. -/
theorem v17_eq : V m c main_v17 = truncf .bf16 (shapeCast S32x2048 (mulf
      (broadcastInDim S32x1x32x64 ![0, 1, 2, 3] bcast_S32x1x32x1_S32x1x32x64_0_1_2_3
        (broadcastInDim S32x1x32x1 ![0, 2] bcast_S32x32_S32x1x32x1_0_2
          (uitofp (F := Ideal) FTy.f32 (cmpi .eq (addi (iotaInDim S32x32 32 0)
            (broadcastInDim S32x32 ![] bcast_S_S32x32 (constantI S_ 32 0#32))) (iotaInDim S32x32 32 1)))))
      (broadcastInDim S32x1x32x64 ![0, 1, 2, 3] bcast_S1x1x1x64_S32x1x32x64_0_1_2_3
        (broadcastInDim S1x1x1x64 ![1, 3] bcast_S1x64_S1x1x1x64_1_3
          (broadcastInDim S1x64 ![] bcast_S_S1x64 (constant S_ FTy.f32 0x3F800000#32)))))
    shapeCasts_S32x1x32x64_S32x2048) bitsLt_bf16_f32 := by
  dsimp only [V, hostOps0, hostOps0_1, hostOps0_2, List.flatten_cons, List.flatten_nil, List.append_nil, List.cons_append,
      List.nil_append]
  after_results
  rfl

/-- The head table at an entry. -/
theorem v17 (h : Fin 32) (k : Fin 2048) :
    V m c main_v17 (ix2 h k) = ((if k.val / 64 = h.val then 1 else 0 : ℝ) : EReal) := by
  rw [v17_eq]
  pointwise
  have e := cmp_eq h ⟨k.val / 64, by omega⟩
  dsimp only at e
  rw [e]
  split <;> simp [FloatOps.uitofp]

/-- The skip weights, each over its head's columns. -/
theorem v20 (k : Fin 2048) :
    V m c main_v20 (ix2 0 k) = m ((c : Thread nD τ).loc main_arg6) (ix1 ⟨k.val / 64, by omega⟩) := by
  dsimp only [V, hostOps0, hostOps0_1, hostOps0_2, List.flatten_cons, List.flatten_nil, List.append_nil, List.cons_append,
      List.nil_append]
  after_results
  pointwise

/-- The norm's weights. -/
theorem v21 (k : Fin 2048) : V m c main_v21 (ix2 0 k) = m ((c : Thread nD τ).loc main_arg7) (ix1 k) := by
  dsimp only [V, hostOps0, hostOps0_1, hostOps0_2, List.flatten_cons, List.flatten_nil, List.append_nil, List.cons_append,
      List.nil_append]
  after_results
  pointwise

/-! ## The blocks -/

/-- A matrix index from its two places. -/
theorem whole2 {n0 n1 : ℕ} (x : (⟨2, ![n0, n1]⟩ : Shape).Idx) (i : Fin n0) (j : Fin n1) (h0 : (x 0).val = i.val)
    (h1 : (x 1).val = j.val) : x = ix2 i j :=
  (eq_ix2 x).trans (congrArg₂ ix2 (Fin.ext h0) (Fin.ext h1))

/-- Point `t`'s block of the rows. -/
theorem iblk0 (t : Fin cfg0.N) (r : Fin 512) (k : Fin 1024) (h : 512 * t.val + r.val < 8192) :
    (iblk m c 0 t : Vec Ideal S512x1024 .f32) (ix2 r k) = V m c main_v0 (ix2 ⟨512 * t.val + r.val, h⟩ k) := by
  have e : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_v0 _ = _
  refine congrArg _ (funext fun a => Fin.ext ?_)
  match a with
  | ⟨0, _⟩ => show win0_0.index t 0 * 512 + 1 * r.val = 512 * t.val + r.val; rw [(e t).1]; omega
  | ⟨1, _⟩ => show win0_0.index t 1 * 1024 + 1 * k.val = k.val; rw [(e t).2]; omega

/-- Every point reads the whole input matrix. -/
theorem iblk1 (t : Fin cfg0.N) (i : Fin 1024) (j : Fin 4256) :
    (iblk m c 1 t : Vec Ideal S1024x4256 .bf16) (ix2 i j) = V m c main_v1 (ix2 i j) := by
  unfold iblk
  rw [View.read_apply]
  show V m c main_v1 _ = _
  refine congrArg _ (whole2 _ _ _ ?_ ?_)
  · show 0 * 1024 + 1 * i.val = i.val; omega
  · show 0 * 4256 + 1 * j.val = j.val; omega

/-- Every point reads the whole taps. -/
theorem iblk2 (t : Fin cfg0.N) (i : Fin 4) (j : Fin 2176) :
    (iblk m c 2 t : Vec Ideal S4x2176 .f32) (ix2 i j) = V m c main_v3 (ix2 i j) := by
  unfold iblk
  rw [View.read_apply]
  show V m c main_v3 _ = _
  refine congrArg _ (whole2 _ _ _ ?_ ?_)
  · show 0 * 4 + 1 * i.val = i.val; omega
  · show 0 * 2176 + 1 * j.val = j.val; omega

/-- Every point reads the whole taps' bias. -/
theorem iblk3 (t : Fin cfg0.N) (i : Fin 1) (j : Fin 2176) :
    (iblk m c 3 t : Vec Ideal S1x2176 .f32) (ix2 i j) = V m c main_v4 (ix2 i j) := by
  unfold iblk
  rw [View.read_apply]
  show V m c main_v4 _ = _
  refine congrArg _ (whole2 _ _ _ ?_ ?_)
  · show 0 * 1 + 1 * i.val = i.val; omega
  · show 0 * 2176 + 1 * j.val = j.val; omega

/-- Every point reads the whole step sizes' bias. -/
theorem iblk4 (t : Fin cfg0.N) (i : Fin 1) (j : Fin 32) :
    (iblk m c 4 t : Vec Ideal S1x32 .f32) (ix2 i j) = V m c main_v5 (ix2 i j) := by
  unfold iblk
  rw [View.read_apply]
  show V m c main_v5 _ = _
  refine congrArg _ (whole2 _ _ _ ?_ ?_)
  · show 0 * 1 + 1 * i.val = i.val; omega
  · show 0 * 32 + 1 * j.val = j.val; omega

/-- Every point reads the whole decay rates. -/
theorem iblk5 (t : Fin cfg0.N) (i : Fin 1) (j : Fin 32) :
    (iblk m c 5 t : Vec Ideal S1x32 .f32) (ix2 i j) = V m c main_v8 (ix2 i j) := by
  unfold iblk
  rw [View.read_apply]
  show V m c main_v8 _ = _
  refine congrArg _ (whole2 _ _ _ ?_ ?_)
  · show 0 * 1 + 1 * i.val = i.val; omega
  · show 0 * 32 + 1 * j.val = j.val; omega

/-- Every point reads the whole head table. -/
theorem iblk6 (t : Fin cfg0.N) (i : Fin 32) (j : Fin 2048) :
    (iblk m c 6 t : Vec Ideal S32x2048 .bf16) (ix2 i j) = V m c main_v17 (ix2 i j) := by
  unfold iblk
  rw [View.read_apply]
  show V m c main_v17 _ = _
  refine congrArg _ (whole2 _ _ _ ?_ ?_)
  · show 0 * 32 + 1 * i.val = i.val; omega
  · show 0 * 2048 + 1 * j.val = j.val; omega

/-- Every point reads the whole skip weights. -/
theorem iblk7 (t : Fin cfg0.N) (i : Fin 1) (j : Fin 2048) :
    (iblk m c 7 t : Vec Ideal S1x2048 .f32) (ix2 i j) = V m c main_v20 (ix2 i j) := by
  unfold iblk
  rw [View.read_apply]
  show V m c main_v20 _ = _
  refine congrArg _ (whole2 _ _ _ ?_ ?_)
  · show 0 * 1 + 1 * i.val = i.val; omega
  · show 0 * 2048 + 1 * j.val = j.val; omega

/-- Every point reads the whole norm's weights. -/
theorem iblk8 (t : Fin cfg0.N) (i : Fin 1) (j : Fin 2048) :
    (iblk m c 8 t : Vec Ideal S1x2048 .f32) (ix2 i j) = V m c main_v21 (ix2 i j) := by
  unfold iblk
  rw [View.read_apply]
  show V m c main_v21 _ = _
  refine congrArg _ (whole2 _ _ _ ?_ ?_)
  · show 0 * 1 + 1 * i.val = i.val; omega
  · show 0 * 2048 + 1 * j.val = j.val; omega

/-- Every point reads the whole output matrix. -/
theorem iblk9 (t : Fin cfg0.N) (i : Fin 2048) (j : Fin 1024) :
    (iblk m c 9 t : Vec Ideal S2048x1024 .bf16) (ix2 i j) = V m c main_v2 (ix2 i j) := by
  unfold iblk
  rw [View.read_apply]
  show V m c main_v2 _ = _
  refine congrArg _ (whole2 _ _ _ ?_ ?_)
  · show 0 * 2048 + 1 * i.val = i.val; omega
  · show 0 * 1024 + 1 * j.val = j.val; omega

end Cert.KernelIdeal.HostOps

end
-- ==== Proof.Inputs.lean ====
/- The launch arguments read as the real operands of `Spec`: under the precondition every entry of the six finite arguments
   is the real number `par` reads off it. -/
module

public import proofs.«01_k».proof.Defs
public import proofs.«01_k».proof.Proof.Spec
public import Idealize.ShloMosaic.Lib.Pointwise

@[expose] public section

noncomputable section

namespace Cert.Inputs

open Idealize.ShloMosaic
open Cert.Spec (Par)

/-- The real operands, read off the arrays (an index past an array's end is taken round). -/
def par (x : Vec Ideal ⟨3, ![4, 2048, 1024]⟩ .f32) (W : Vec Ideal ⟨2, ![1024, 4256]⟩ .f32)
    (cw : Vec Ideal ⟨2, ![2176, 4]⟩ .f32) (cb : Vec Ideal ⟨1, ![2176]⟩ .f32) (tb al : Vec Ideal ⟨1, ![32]⟩ .f32) : Par where
  X b t k := EReal.toReal (x (ix3 (Fin.ofNat 4 b) (Fin.ofNat 2048 t) (Fin.ofNat 1024 k)))
  W k e := EReal.toReal (W (ix2 (Fin.ofNat 1024 k) (Fin.ofNat 4256 e)))
  cw e k := EReal.toReal (cw (ix2 (Fin.ofNat 2176 e) (Fin.ofNat 4 k)))
  cb e := EReal.toReal (cb (ix1 (Fin.ofNat 2176 e)))
  tb h := EReal.toReal (tb (ix1 (Fin.ofNat 32 h)))
  al h := EReal.toReal (al (ix1 (Fin.ofNat 32 h)))

/-- Each array's entries are the numbers of `P`. -/
structure Real (P : Par) (x : Vec Ideal ⟨3, ![4, 2048, 1024]⟩ .f32) (W : Vec Ideal ⟨2, ![1024, 4256]⟩ .f32)
    (cw : Vec Ideal ⟨2, ![2176, 4]⟩ .f32) (cb : Vec Ideal ⟨1, ![2176]⟩ .f32) (tb al : Vec Ideal ⟨1, ![32]⟩ .f32) : Prop where
  /-- the sequences -/
  x : ∀ (b : Fin 4) (t : Fin 2048) (k : Fin 1024), x (ix3 b t k) = (P.X b t k : EReal)
  /-- the input matrix -/
  W : ∀ (k : Fin 1024) (e : Fin 4256), W (ix2 k e) = (P.W k e : EReal)
  /-- the taps -/
  cw : ∀ (e : Fin 2176) (k : Fin 4), cw (ix2 e k) = (P.cw e k : EReal)
  /-- the taps' bias -/
  cb : ∀ e : Fin 2176, cb (ix1 e) = (P.cb e : EReal)
  /-- the step sizes' bias -/
  tb : ∀ h : Fin 32, tb (ix1 h) = (P.tb h : EReal)
  /-- the logarithms of the decay rates -/
  al : ∀ h : Fin 32, al (ix1 h) = (P.al h : EReal)

/-- A number in range is itself. -/
theorem ofNat_val {n : ℕ} [NeZero n] (i : Fin n) : Fin.ofNat n i.val = i := Fin.ext (Nat.mod_eq_of_lt i.isLt)

/-- An entry whose absolute value is below infinity is a real number. -/
theorem real_of_lt {s : Shape} {x : FVec Ideal s .f32} {B : FVec Ideal s .f32} {i : s.Idx}
    (hB : B i = Ideal.ofBits .f32 0x7F800000#32) (h : cmpf .olt (Host.absf x) B i = 1#1) :
    x i = ((EReal.toReal (x i) : ℝ) : EReal) := by
  have h' : Ideal.cmp .olt (max (x i) (-x i)) (B i) = 1#1 := h
  have inf : Ideal.ofBits .f32 0x7F800000#32 = ⊤ := by simp [Ideal.ofBits, Ideal.ieee, -EReal.coe_mul]
  rw [hB, inf] at h'
  refine (EReal.coe_toReal ?_ ?_).symm <;> intro e <;> rw [e] at h' <;> simp [Ideal.cmp] at h'

variable [Cert.Pre_finite_inputs.Facts]

/-- Under the precondition the six arguments are the numbers `par` reads off them. -/
theorem real (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    Real (par (m ((c.tc : Thread _ _).loc Cert.KernelIdeal.main_arg0)) (m ((c.tc : Thread _ _).loc Cert.KernelIdeal.main_arg1))
        (m ((c.tc : Thread _ _).loc Cert.KernelIdeal.main_arg2)) (m ((c.tc : Thread _ _).loc Cert.KernelIdeal.main_arg3))
        (m ((c.tc : Thread _ _).loc Cert.KernelIdeal.main_arg4)) (m ((c.tc : Thread _ _).loc Cert.KernelIdeal.main_arg5)))
      (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5)) := by
  obtain ⟨h0, h1, h2, h3, h4, h5⟩ := h c
  constructor
  · intro b t k
    dsimp only [par]
    rw [ofNat_val, ofNat_val, ofNat_val]
    exact real_of_lt rfl (congrFun h0 _)
  · intro k e
    dsimp only [par]
    rw [ofNat_val, ofNat_val]
    exact real_of_lt rfl (congrFun h1 _)
  · intro e k
    dsimp only [par]
    rw [ofNat_val, ofNat_val]
    exact real_of_lt rfl (congrFun h2 _)
  · intro e
    dsimp only [par]
    rw [ofNat_val]
    exact real_of_lt rfl (congrFun h3 _)
  · intro e
    dsimp only [par]
    rw [ofNat_val]
    exact real_of_lt rfl (congrFun h4 _)
  · intro e
    dsimp only [par]
    rw [ofNat_val]
    exact real_of_lt rfl (congrFun h5 _)

end Cert.Inputs

end
-- ==== Proof.Grid.lean ====
/- The kernel's result over the extended reals: the sixteen points in order, each leaving its block of `Spec.Par.out` and the
   scratches its successor needs. -/
module

public import proofs.«01_k».proof.Proof.Host
public import proofs.«01_k».proof.Proof.Inputs

@[expose] public section

set_option maxRecDepth 16384

noncomputable section

namespace Cert.KernelIdeal.Grid

open Idealize.ShloMosaic Idealize.ShloMosaic.TcCoe Idealize.SL.Sem
open Cert.KernelIdeal Cert.KernelIdeal.Gen Cert.KernelIdeal.Point Cert.KernelIdeal.PointEval Cert.KernelIdeal.HostOps
open Cert.KernelIdeal.Value (stAt0 stAt0_A stAt0_B junk0 outsAt0_zero outsAt0_succ outsAt0_sweep G10)
open Cert.Spec (Par)

variable (m : (ℓ : Loc nD τ sig) → Buf (Elt Ideal) ℓ) (c : Dev nD)

/-- The skip weights as launched. -/
def skip (h : ℕ) : EReal := m ((c : Thread nD τ).loc main_arg6) (ix1 (Fin.ofNat 32 h))
/-- The norm's weights as launched. -/
def wts (k : ℕ) : EReal := m ((c : Thread nD τ).loc main_arg7) (ix1 (Fin.ofNat 2048 k))
/-- The output matrix as launched. -/
def omat (k d : ℕ) : EReal := m ((c : Thread nD τ).loc main_arg8) (ix2 (Fin.ofNat 2048 k) (Fin.ofNat 1024 d))

variable {m c} {P : Par}
    (R : Inputs.Real P (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)))

include R

/-- What the blocks of point `t` hold. -/
theorem ins (t : Fin cfg0.N) :
    Ins P (skip m c) (wts m c) (omat m c) (t.val / 4) (t.val % 4) (iblk m c 0 t) (iblk m c 1 t) (iblk m c 2 t) (iblk m c 3 t)
      (iblk m c 4 t) (iblk m c 5 t) (iblk m c 6 t) (iblk m c 7 t) (iblk m c 8 t) (iblk m c 9 t) := by
  have ht : t.val < 16 := lt_of_lt_of_eq t.isLt N_0
  constructor
  · intro r k
    rw [iblk0 m c t r k (by omega), v0]
    refine (R.x _ _ _).trans ?_
    congr 2 <;> dsimp only <;> omega
  · intro k e
    rw [iblk1, v1]
    exact R.W k e
  · intro k e
    rw [iblk2, v3]
    exact R.cw e k
  · intro e
    rw [iblk3, v4]
    exact R.cb e
  · intro h
    rw [iblk4, v5]
    exact R.tb h
  · intro h
    rw [iblk5, v8, R.al, Ideal.exp_coe, EReal.coe_neg]
  · intro h k
    rw [iblk6, v17]
  · intro k
    rw [iblk7, v20, skip]
    exact congrArg _ (congrArg ix1 (Inputs.ofNat_val (n := 32) ⟨k.val / 64, by omega⟩).symm)
  · intro k
    rw [iblk8, v21, wts, Inputs.ofNat_val]
  · intro k d
    rw [iblk9, v2, omat, Inputs.ofNat_val, Inputs.ofNat_val]

/-- What one point leaves: its block of the result and the scratches for the next block. -/
def Left (P : Par) (D nw : ℕ → EReal) (Wo : ℕ → ℕ → EReal) (n : ℕ)
    (o : Vec Ideal S512x1024 .f32 × Vec Ideal S8x2176 .f32 × Vec Ideal S8x64x256 .f32) : Prop :=
  (∀ (r : Fin 512) (d : Fin 1024), o.1 (ix2 r d) = P.out (n / 4) D nw Wo (512 * (n % 4) + r.val) d)
    ∧ Scr P (n / 4) (n % 4 + 1) o.2.1 o.2.2

/-- A point that begins a sequence. -/
theorem left_A (t : Fin cfg0.N) (acc) (h0 : t.val % 4 = 0) :
    Left P (skip m c) (wts m c) (omat m c) t.val (stAt0 m c t.val t.isLt acc) := by
  have I := ins R t
  have S : Scr P (t.val / 4) (t.val % 4) (k0_pay6 (F := Ideal)) (k0_pay7 (F := Ideal)) := by
    rw [h0]; exact Scr.zero P _
  rw [stAt0_A m c t acc h0]
  refine ⟨fun r d => ?_, ?_⟩
  · dsimp only
    rw [out_A]
    exact I.out S r d
  · dsimp only
    rw [tail_A, state_A]
    exact I.next S

/-- A point that continues a sequence. -/
theorem left_B (t : Fin cfg0.N) (acc : Vec Ideal S512x1024 .f32 × Vec Ideal S8x2176 .f32 × Vec Ideal S8x64x256 .f32)
    (h0 : ¬t.val % 4 = 0) (S : Scr P (t.val / 4) (t.val % 4) acc.2.1 acc.2.2) :
    Left P (skip m c) (wts m c) (omat m c) t.val (stAt0 m c t.val t.isLt acc) := by
  have I := ins R t
  rw [stAt0_B m c t acc h0]
  refine ⟨fun r d => ?_, ?_⟩
  · dsimp only
    rw [out_B]
    exact I.out S r d
  · dsimp only
    rw [tail_B, state_B]
    exact I.next S

/-- What every point leaves. -/
theorem left (n : ℕ) (hn : n < cfg0.N) : Left P (skip m c) (wts m c) (omat m c) n (outsAt0 m c n hn) := by
  induction n with
  | zero =>
    rw [outsAt0_zero]
    exact left_A R ⟨0, hn⟩ _ rfl
  | succ n ih =>
    rw [outsAt0_succ]
    by_cases h0 : (n + 1) % 4 = 0
    · exact left_A R ⟨n + 1, hn⟩ _ h0
    · refine left_B R ⟨n + 1, hn⟩ _ h0 ?_
      have S := (ih (Nat.lt_of_succ_lt hn)).2
      have e1 : (n + 1) / 4 = n / 4 := by omega
      have e2 : (n + 1) % 4 = n % 4 + 1 := by omega
      rw [show ((⟨n + 1, hn⟩ : Fin cfg0.N).val) = n + 1 from rfl, e1, e2]
      exact S

/-- The kernel's result. -/
theorem result (r : Fin 8192) (d : Fin 1024) :
    (G10 m c : Vec Ideal S8192x1024 .f32) (ix2 r d)
      = P.out (r.val / 2048) (skip m c) (wts m c) (omat m c) (r.val % 2048) d := by
  have hp : Value.pt10Of (ix2 r d) = r.val / 512 := by
    show 1 * (r.val / 512 - 0) + 1 * (d.val / 1024 - 0) = _
    omega
  have hb : Value.pt10Of (ix2 r d) < cfg0.N := by
    rw [hp]; exact lt_of_lt_of_eq (by omega : r.val / 512 < 16) N_0.symm
  unfold G10
  rw [dif_pos hb, ← outsAt0_sweep m c _ hb]
  have hl : Value.loc10Of (ix2 r d) = ix2 ⟨r.val % 512, by omega⟩ d :=
    whole2 _ _ _ rfl (Nat.mod_eq_of_lt d.isLt)
  rw [hl, (left R _ hb).1, hp]
  congr 1 <;> first | omega | (dsimp only; omega)

end Cert.KernelIdeal.Grid

end
-- ==== Proof.RefHead.lean ====
/- The reference before its loop, over the extended reals: the projection, the step sizes and the convolved channels are the
   numbers of `Spec`. -/
module

public import proofs.«01_k».proof.Proof.Gen.ReferenceIdeal.Step
public import proofs.«01_k».proof.Proof.Inputs

@[expose] public section

set_option maxRecDepth 16384

noncomputable section

namespace Cert.ReferenceIdeal.Head

open Idealize.ShloMosaic
open Cert.ReferenceIdeal Cert.ReferenceIdeal.Gen Cert.ReferenceIdeal.Step Cert.Spec

variable {P : Par} {x : Vec Ideal S4x2048x1024 .f32} {W : Vec Ideal S1024x4256 .f32} {cw : Vec Ideal S2176x4 .f32}
    {cb : Vec Ideal S2176 .f32} {tb al : Vec Ideal S32 .f32} (R : Inputs.Real P x W cw cb tb al)

/-- `v` times its logistic, as the reference spells it. -/
theorem silu_coe (v : ℝ) : (v : EReal) * Ideal.div 1 (1 + Ideal.exp (-(v : EReal))) = (silu v : EReal) := by
  rw [← EReal.coe_neg, Ideal.exp_coe, ← EReal.coe_one, ← EReal.coe_add,
    Ideal.div_coe (by have := Real.exp_pos (-v); linarith), ← EReal.coe_mul, ← EReal.coe_mul]
  unfold silu
  rw [one_mul, one_div]

/-- The logarithm of one plus the exponential, as the reference spells it. -/
theorem softplus_coe (v : ℝ) : max (v : EReal) 0 + Ideal.log1p (Ideal.exp (-(FloatOps.absf (F := Ideal) (φ := .f32) (v : EReal)))) = (softplus v : EReal) := by
  unfold Ideal.log1p
  rw [Ideal.absf_def, ← EReal.coe_neg, ← coe_max, ← EReal.coe_neg, Ideal.exp_coe, ← EReal.coe_one, ← EReal.coe_add, Ideal.log_coe,
    if_neg (by have := Real.exp_pos (-max v (-v)); linarith), ← EReal.coe_zero, ← coe_max, ← EReal.coe_add]
  unfold softplus
  rw [zero_sub]
  rfl

include R

/-- The projection. -/
theorem proj (b : Fin 4) (t : Fin 2048) (e : Fin 4256) :
    A_main_v0 x W cw cb tb al (ix3 b t e) = (P.proj b t e : EReal) := by
  pointwise [A_main_v0]
  simp only [R.x, R.W, ← EReal.coe_mul, ← coe_sum]
  rfl

/-- The step sizes. -/
theorem dt (b : Fin 4) (t : Fin 2048) (h : Fin 32) :
    A_main_v7 x W cw cb tb al (ix3 b t h) = (P.dt b t h : EReal) := by
  pointwise [A_main_v7, A_main_call0_v11, A_main_call0_v10, A_main_call0_v9, A_main_call0_v8, A_main_call0_v7,
    A_main_call0_v6, A_main_call0_v4, A_main_call0_v3, A_main_call0_v1, A_main_v6, A_main_v5, A_main_v4, A_main_v3,
    K_main_call0_v0, K_main_call0_v2, K_main_call0_v5, K_main_call0_cst]
  rw [proj R, R.tb]
  rw [← EReal.coe_add, if_neg (not_not.mpr rfl)]
  exact softplus_coe _

/-- The channels before the convolution. -/
theorem padded (b : Fin 4) (i : Fin 2051) (e : Fin 2176) :
    A_main_v8 x W cw cb tb al (ix3 b i e) = (P.padded b i e : EReal) := by
  pointwise [A_main_v8, A_main_v2, K_main_call1_v0, K_main_c]
  unfold Par.padded
  by_cases h : 3 ≤ i.val
  · rw [dif_pos ⟨h, by omega⟩, proj R, if_pos h]
  · rw [dif_neg (fun h' => h h'.1), if_neg h]
    show ((((0#32 : BitVec 32).toInt : ℤ) : ℝ) : EReal) = _
    simp

/-- The convolved channels. -/
theorem cv (b : Fin 4) (t : Fin 2048) (e : Fin 2176) :
    A_main_v41 x W cw cb tb al (ix3 b t e) = (P.cv b t e : EReal) := by
  pointwise [A_main_v41, A_main_call2_v5, A_main_call2_v3, A_main_call2_v1, A_main_call2_v0, K_main_call2_v2, K_main_call2_v4,
    K_main_call2_cst, K_main_call2_cst_0, A_main_v40, A_main_v39, A_main_v38, A_main_v37, A_main_v36, A_main_v35,
    A_main_v34, A_main_v33, A_main_v32, A_main_v31, A_main_v30, A_main_v29, A_main_v28, A_main_v27, A_main_v26, A_main_v25,
    A_main_v24, A_main_v23, A_main_v22, A_main_v21, A_main_v20, A_main_v19, A_main_v18, A_main_v17, A_main_v16, A_main_v14,
    A_main_v13, A_main_v12, A_main_v11, A_main_v10, A_main_v9, K_main_v15, K_main_cst]
  rw [padded R, padded R, padded R, padded R, R.cw, R.cw, R.cw, R.cw, R.cb]
  simp only [← EReal.coe_mul, ← EReal.coe_add]
  rw [silu_coe]
  refine congrArg _ (congrArg silu ?_)
  unfold Par.pre
  rw [Nat.add_comm 1 t.val, Nat.add_comm 2 t.val, Nat.add_comm 3 t.val]
  rfl

/-- The step sizes, time first. -/
theorem v49 (t : Fin 2048) (b : Fin 4) (h : Fin 32) :
    A_main_v49 x W cw cb tb al (ix3 t b h) = (P.dt b t h : EReal) := by
  pointwise [A_main_v49]
  exact dt R b t h

/-- The input columns by head, time first. -/
theorem v50 (t : Fin 2048) (b : Fin 4) (h : Fin 32) (p : Fin 64) :
    A_main_v50 x W cw cb tb al (ix4 t b h p) = (P.cv b t (64 * h.val + p.val) : EReal) := by
  pointwise [A_main_v50, A_main_v43, A_main_v42]
  rw [cv R]
  dsimp only
  rw [Nat.mul_comm]

/-- The input directions, time first. -/
theorem v51 (t : Fin 2048) (b : Fin 4) (n : Fin 64) :
    A_main_v51 x W cw cb tb al (ix3 t b n) = (P.cv b t (2048 + n.val) : EReal) := by
  pointwise [A_main_v51, A_main_v44]
  rw [cv R]

/-- The output directions, time first. -/
theorem v52 (t : Fin 2048) (b : Fin 4) (n : Fin 64) :
    A_main_v52 x W cw cb tb al (ix3 t b n) = (P.cv b t (2112 + n.val) : EReal) := by
  pointwise [A_main_v52, A_main_v45]
  rw [cv R]

/-- The gate's columns, time first. -/
theorem v53 (t : Fin 2048) (b : Fin 4) (κ : Fin 2048) :
    A_main_v53 x W cw cb tb al (ix3 t b κ) = (P.proj b t κ : EReal) := by
  pointwise [A_main_v53, A_main_v1]
  rw [proj R]

/-- The decay rates. -/
theorem v47 (h : Fin 32) : A_main_v47 x W cw cb tb al (ix1 h) = ((-Real.exp (P.al h) : ℝ) : EReal) := by
  pointwise [A_main_v47, A_main_v46]
  rw [R.al]
  rw [Ideal.exp_coe, EReal.coe_neg]

end Cert.ReferenceIdeal.Head

end
-- ==== Proof.RefStep.lean ====
/- One trip of the reference's loop over the extended reals: from a state that holds the numbers of `Spec` at time `j`, the
   trip leaves the state of time `j + 1` and writes row `j` of the normalised rows. -/
module

public import proofs.«01_k».proof.Proof.RefHead
public import Idealize.ShloMosaic.Lib.DynamicIndex

@[expose] public section

set_option maxRecDepth 16384

noncomputable section

namespace Cert.ReferenceIdeal.Trip

open Idealize.ShloMosaic
open Cert.ReferenceIdeal Cert.ReferenceIdeal.Gen Cert.ReferenceIdeal.Step Cert.Spec
open Cert.Scan (state)

/-- What the state holds at time `j`. -/
structure Holds (P : Par) (D nw : ℕ → EReal) (j : ℕ) (s : State Ideal) : Prop where
  /-- the step sizes -/
  dt : ∀ (t : Fin 2048) (b : Fin 4) (h : Fin 32), s.main_v55_0 (ix3 t b h) = (P.dt b t h : EReal)
  /-- the input columns -/
  x : ∀ (t : Fin 2048) (b : Fin 4) (h : Fin 32) (p : Fin 64),
    s.main_v55_1 (ix4 t b h p) = (P.cv b t (64 * h.val + p.val) : EReal)
  /-- the input directions -/
  B : ∀ (t : Fin 2048) (b : Fin 4) (n : Fin 64), s.main_v55_2 (ix3 t b n) = (P.cv b t (2048 + n.val) : EReal)
  /-- the output directions -/
  C : ∀ (t : Fin 2048) (b : Fin 4) (n : Fin 64), s.main_v55_3 (ix3 t b n) = (P.cv b t (2112 + n.val) : EReal)
  /-- the gate's columns -/
  z : ∀ (t : Fin 2048) (b : Fin 4) (κ : Fin 2048), s.main_v55_4 (ix3 t b κ) = (P.proj b t κ : EReal)
  /-- the decay rates -/
  a : ∀ h : Fin 32, s.main_v55_5 (ix1 h) = ((-Real.exp (P.al h) : ℝ) : EReal)
  /-- the skip weights -/
  sk : ∀ h : Fin 32, s.main_v55_6 (ix1 h) = D h
  /-- the norm's weights -/
  wt : ∀ κ : Fin 2048, s.main_v55_7 (ix1 κ) = nw κ
  /-- the recurrence's state -/
  H : ∀ (b : Fin 4) (h : Fin 32) (p n : Fin 64), s.main_v55_9 (ix4 b h p n) = (P.H b (64 * h.val + p.val) n j : EReal)
  /-- the rows already written -/
  ys : ∀ (t : Fin 2048) (b : Fin 4) (κ : Fin 2048), t.val < j → s.main_v55_10 (ix3 t b κ) = P.row b D nw t κ

variable {P : Par} {D nw : ℕ → EReal} {j : ℕ} {s : State Ideal} (hj : j < 2048)

include hj

/-- Row `j` of the step sizes. -/
theorem b3_eq (b : Fin 4) (h : Fin 32) : b3 j s (ix2 b h) = s.main_v55_0 (ix3 ⟨j, hj⟩ b h) := by
  have w : S2048x4x32.Slices ![j, 0, 0] S1x4x32 := ⟨rfl, fun a => match a with
      | ⟨0, _⟩ => hj
      | ⟨1, _⟩ => Nat.le_refl 4
      | ⟨2, _⟩ => Nat.le_refl 32⟩
  have e : b2 j s = extractStridedSlice S1x4x32 ![j, 0, 0] s.main_v55_0 w :=
    Host.dynamicSlice_eq_extractStridedSlice S1x4x32 _ _ _ _ w (fun a => match a with
      | ⟨0, _⟩ => toInt_ofNat_of_lt (by omega)
      | ⟨1, _⟩ => rfl
      | ⟨2, _⟩ => rfl)
  unfold b3
  rw [e]
  pointwise

/-- Row `j` of the input columns. -/
theorem b8_eq (b : Fin 4) (h : Fin 32) (p : Fin 64) : b8 j s (ix3 b h p) = s.main_v55_1 (ix4 ⟨j, hj⟩ b h p) := by
  have w : S2048x4x32x64.Slices ![j, 0, 0, 0] S1x4x32x64 := ⟨rfl, fun a => match a with
      | ⟨0, _⟩ => hj
      | ⟨1, _⟩ => Nat.le_refl 4
      | ⟨2, _⟩ => Nat.le_refl 32
      | ⟨3, _⟩ => Nat.le_refl 64⟩
  have e : b7 j s = extractStridedSlice S1x4x32x64 ![j, 0, 0, 0] s.main_v55_1 w :=
    Host.dynamicSlice_eq_extractStridedSlice S1x4x32x64 _ _ _ _ w (fun a => match a with
      | ⟨0, _⟩ => toInt_ofNat_of_lt (by omega)
      | ⟨1, _⟩ => rfl
      | ⟨2, _⟩ => rfl
      | ⟨3, _⟩ => rfl)
  unfold b8
  rw [e]
  pointwise

/-- Row `j` of the input directions. -/
theorem b12_eq (b : Fin 4) (n : Fin 64) : b12 j s (ix2 b n) = s.main_v55_2 (ix3 ⟨j, hj⟩ b n) := by
  have w : S2048x4x64.Slices ![j, 0, 0] S1x4x64 := ⟨rfl, fun a => match a with
      | ⟨0, _⟩ => hj
      | ⟨1, _⟩ => Nat.le_refl 4
      | ⟨2, _⟩ => Nat.le_refl 64⟩
  have e : b11 j s = extractStridedSlice S1x4x64 ![j, 0, 0] s.main_v55_2 w :=
    Host.dynamicSlice_eq_extractStridedSlice S1x4x64 _ _ _ _ w (fun a => match a with
      | ⟨0, _⟩ => toInt_ofNat_of_lt (by omega)
      | ⟨1, _⟩ => rfl
      | ⟨2, _⟩ => rfl)
  unfold b12
  rw [e]
  pointwise

/-- Row `j` of the output directions. -/
theorem b16_eq (b : Fin 4) (n : Fin 64) : b16 j s (ix2 b n) = s.main_v55_3 (ix3 ⟨j, hj⟩ b n) := by
  have w : S2048x4x64.Slices ![j, 0, 0] S1x4x64 := ⟨rfl, fun a => match a with
      | ⟨0, _⟩ => hj
      | ⟨1, _⟩ => Nat.le_refl 4
      | ⟨2, _⟩ => Nat.le_refl 64⟩
  have e : b15 j s = extractStridedSlice S1x4x64 ![j, 0, 0] s.main_v55_3 w :=
    Host.dynamicSlice_eq_extractStridedSlice S1x4x64 _ _ _ _ w (fun a => match a with
      | ⟨0, _⟩ => toInt_ofNat_of_lt (by omega)
      | ⟨1, _⟩ => rfl
      | ⟨2, _⟩ => rfl)
  unfold b16
  rw [e]
  pointwise

/-- Row `j` of the gate's columns. -/
theorem b20_eq (b : Fin 4) (κ : Fin 2048) : b20 j s (ix2 b κ) = s.main_v55_4 (ix3 ⟨j, hj⟩ b κ) := by
  have w : S2048x4x2048.Slices ![j, 0, 0] S1x4x2048 := ⟨rfl, fun a => match a with
      | ⟨0, _⟩ => hj
      | ⟨1, _⟩ => Nat.le_refl 4
      | ⟨2, _⟩ => Nat.le_refl 2048⟩
  have e : b19 j s = extractStridedSlice S1x4x2048 ![j, 0, 0] s.main_v55_4 w :=
    Host.dynamicSlice_eq_extractStridedSlice S1x4x2048 _ _ _ _ w (fun a => match a with
      | ⟨0, _⟩ => toInt_ofNat_of_lt (by omega)
      | ⟨1, _⟩ => rfl
      | ⟨2, _⟩ => rfl)
  unfold b20
  rw [e]
  pointwise

/-- The rows after the trip: row `j` replaced. -/
theorem b72_eq (t : Fin 2048) (b : Fin 4) (κ : Fin 2048) :
    b72 j s (ix3 t b κ) = if t.val = j then b68 j s (ix2 b κ) else s.main_v55_10 (ix3 t b κ) := by
  have w : S2048x4x2048.Slices ![j, 0, 0] S1x4x2048 := ⟨rfl, fun a => match a with
      | ⟨0, _⟩ => hj
      | ⟨1, _⟩ => Nat.le_refl 4
      | ⟨2, _⟩ => Nat.le_refl 2048⟩
  have e : b72 j s = updateSlice s.main_v55_10 (b69 j s) ![j, 0, 0] w :=
    Host.dynamicUpdateSlice_eq_updateSlice _ _ _ _ _ (fun a => match a with
      | ⟨0, _⟩ => by
        show (min (max ((BitVec.ofNat 32 j).toInt) 0) (2047 : ℤ)).toNat = j
        rw [toInt_ofNat_of_lt (by omega)]; omega
      | ⟨1, _⟩ => rfl
      | ⟨2, _⟩ => rfl) w
  rw [e]
  pointwise [b69]
  by_cases h : t.val = j
  · rw [if_pos h, dif_pos ⟨h.ge, by omega⟩]
  · rw [if_neg h, dif_neg (by omega)]

variable (I : Holds P D nw j s)

include I

/-- The state after the trip. -/
theorem H_next (b : Fin 4) (h : Fin 32) (p n : Fin 64) :
    b36 j s (ix4 b h p n) = (P.H b (64 * h.val + p.val) n (j + 1) : EReal) := by
  pointwise [b36, b35, b34, b33, b32, b31, b30, b29, b28, b27, b26, b25, b24, b23, b22, b21]
  rw [b3_eq hj, b8_eq hj, b12_eq hj, I.dt, I.x, I.B, I.a, I.H]
  simp only [← EReal.coe_mul, Ideal.exp_coe, ← EReal.coe_add]
  refine congrArg _ ?_
  unfold Par.H state
  rw [Scan.scan, show (64 * h.val + p.val) / 64 = h.val by omega, mul_comm (P.dt b j h) (P.cv b j (64 * h.val + p.val))]
  rfl

/-- The gated row. -/
theorem u_eq (b : Fin 4) (κ : Fin 2048) : b52 j s (ix2 b κ) = P.u b D j κ := by
  pointwise [b52, b51, b50, b49, b48, b47, b46, b45, b44, b43, b42, b41, b40, b39, b38, b37]
  have e : 64 * (κ.val / 64) + κ.val % 64 = κ.val := Nat.div_add_mod _ _
  rw [b8_eq hj, b20_eq hj, I.x, I.z, I.sk, Head.silu_coe]
  simp only [b16_eq hj, I.C, H_next hj I, e, ← EReal.coe_mul, ← coe_sum]
  unfold Par.u Par.y
  simp only [mul_comm]
  rfl

/-- The normalised row. -/
theorem row_eq (b : Fin 4) (κ : Fin 2048) : b68 j s (ix2 b κ) = P.row b D nw j κ := by
  pointwise [b68, b67, b66, b65, b64, b63, b62, b61, b60, b59, b58, b57, b56, b55, b54, b53]
  simp only [u_eq hj I]
  rw [I.wt]
  rfl

/-- The trip takes time `j` to time `j + 1`. -/
theorem next : Holds P D nw (j + 1) (step j s) where
  dt := I.dt
  x := I.x
  B := I.B
  C := I.C
  z := I.z
  a := I.a
  sk := I.sk
  wt := I.wt
  H b h p n := by
    rw [step_main_v55_9]
    exact H_next hj I b h p n
  ys t b κ ht := by
    rw [step_main_v55_10, b72_eq hj]
    split
    · rename_i e
      rw [row_eq hj I, e]
    · exact I.ys t b κ (by omega)

omit hj I

/-- Before the loop. -/
theorem start {x : Vec Ideal S4x2048x1024 .f32} {W : Vec Ideal S1024x4256 .f32} {cw : Vec Ideal S2176x4 .f32}
    {cb : Vec Ideal S2176 .f32} {tb al : Vec Ideal S32 .f32} (R : Inputs.Real P x W cw cb tb al)
    {d : Vec Ideal S32 .f32} {w : Vec Ideal S2048 .f32} (hd : ∀ h : Fin 32, d (ix1 h) = D h)
    (hw : ∀ κ : Fin 2048, w (ix1 κ) = nw κ) : Holds P D nw 0 (init d w x W cw cb tb al) where
  dt := Head.v49 R
  x := Head.v50 R
  B := Head.v51 R
  C := Head.v52 R
  z := Head.v53 R
  a := Head.v47 R
  sk := hd
  wt := hw
  H b h p n := by
    show K_main_v48 (F := Ideal) (ix4 b h p n) = _
    pointwise [K_main_v48, K_main_cst_0]
    rfl
  ys t b κ ht := absurd ht (Nat.not_lt_zero _)

/-- The result of the last state. -/
theorem result (I : Holds P D nw 2048 s) {o : Vec Ideal S2048x1024 .f32} {Wo : ℕ → ℕ → EReal}
    (ho : ∀ (k : Fin 2048) (d : Fin 1024), o (ix2 k d) = Wo k d) (r : Fin 8192) (d : Fin 1024) :
    R_main_v58 s o (ix2 r d) = P.out (r.val / 2048) D nw Wo (r.val % 2048) d := by
  pointwise [R_main_v58]
  simp only [ho]
  unfold Par.out
  refine Finset.sum_congr rfl fun κ _ => ?_
  rw [I.ys _ _ _ (by dsimp only; omega)]

end Cert.ReferenceIdeal.Trip

end
-- ==== Proof.Equal.lean ====
/- The two programs' results are one array: both are `Spec.Par.out` of the numbers the launch arguments hold. -/
module

public import proofs.«01_k».proof.Proof.Grid
public import proofs.«01_k».proof.Proof.RefStep
public import proofs.«01_k».proof.Proof.Loop

@[expose] public section

noncomputable section

namespace Cert.Equal

open Idealize.ShloMosaic Idealize.SL.Sem
open Cert.Spec (Par)
open Cert.ReferenceIdeal.Step (State step init R_main_v58)
open Cert.ReferenceIdeal.Loop (iter)

/-- What the state holds after each trip. -/
theorem holds {P : Par} {D nw : ℕ → EReal} {s : State Ideal} (h : Cert.ReferenceIdeal.Trip.Holds P D nw 0 s) (n : ℕ)
    (hn : n ≤ 2048) : Cert.ReferenceIdeal.Trip.Holds P D nw n (iter s n) := by
  induction n with
  | zero => exact h
  | succ n ih => exact Cert.ReferenceIdeal.Trip.next (by omega) (ih (by omega))

variable [Cert.Pre_finite_inputs.Facts]

/-- The reference's result, of the kernel's launch arguments, is the kernel's. -/
theorem result (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    R_main_v58 (iter (init (m ((c.tc : Thread _ _).loc Cert.KernelIdeal.main_arg6))
        (m ((c.tc : Thread _ _).loc Cert.KernelIdeal.main_arg7)) (m ((c.tc : Thread _ _).loc Cert.KernelIdeal.main_arg0))
        (m ((c.tc : Thread _ _).loc Cert.KernelIdeal.main_arg1)) (m ((c.tc : Thread _ _).loc Cert.KernelIdeal.main_arg2))
        (m ((c.tc : Thread _ _).loc Cert.KernelIdeal.main_arg3)) (m ((c.tc : Thread _ _).loc Cert.KernelIdeal.main_arg4))
        (m ((c.tc : Thread _ _).loc Cert.KernelIdeal.main_arg5))) 2048) (m ((c.tc : Thread _ _).loc Cert.KernelIdeal.main_arg8))
      = Cert.KernelIdeal.Value.G10 m c := by
  have R := Cert.Inputs.real m h c
  have I := holds (Cert.ReferenceIdeal.Trip.start R (D := Cert.KernelIdeal.Grid.skip m c) (nw := Cert.KernelIdeal.Grid.wts m c)
    (d := m ((c.tc : Thread _ _).loc Cert.KernelIdeal.main_arg6)) (w := m ((c.tc : Thread _ _).loc Cert.KernelIdeal.main_arg7))
    (fun h => by rw [Cert.KernelIdeal.Grid.skip, Cert.Inputs.ofNat_val])
    (fun κ => by rw [Cert.KernelIdeal.Grid.wts, Cert.Inputs.ofNat_val])) 2048 (Nat.le_refl _)
  funext i
  rw [eq_ix2 i]
  refine (Cert.ReferenceIdeal.Trip.result I (Wo := Cert.KernelIdeal.Grid.omat m c) (fun k d => ?_) _ _).trans
    (Cert.KernelIdeal.Grid.result R _ _).symm
  rw [Cert.KernelIdeal.Grid.omat, Cert.Inputs.ofNat_val, Cert.Inputs.ofNat_val]

end Cert.Equal

end
-- ==== Proof.lean ====
/- The certificate: the frames of the kernel, of the idealised kernel and of the reference, and the equality of the kernel's
   result with the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Loop
public import proofs.«01_k».proof.Proof.Equal
public import proofs.«01_k».proof.Proof.Gen.Pre_finite_inputs
public import Idealize.ShloMosaic.Adequacy
public import Idealize.ShloMosaic.Init

@[expose] public section

noncomputable section

namespace Cert.Proof

open Idealize.ShloMosaic Idealize.SL.Sem Cert.Kernel

/-- The reference runs, keeps its arguments, and has no counter to leave. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with one result. -/
theorem equal [Cert.Pre_finite_inputs.Facts] : Cert.algebraic_KernelIdeal_ReferenceIdeal_pre_finite_inputs := by
  intro m g m' g' hPre hagree
  refine ⟨fun c => Cert.KernelIdeal.Value.G10 m c, Cert.KernelIdeal.Value.run (F := Ideal) m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5, e6, e7, e8⟩ := hagree c
  refine Eq.trans ?_ (Cert.Equal.result m hPre c)
  rw [Cert.ReferenceIdeal.Loop.out_read, Cert.ReferenceIdeal.Value.iter_main_arg8,
    (Cert.ReferenceIdeal.Loop.read_iter (Cert.ReferenceIdeal.Loop.count_entry m' c) 2048).1,
    Cert.ReferenceIdeal.Loop.read_entry, ← e0, ← e1, ← e2, ← e3, ← e4, ← e5, ← e6, ← e7, ← e8]

/-- Everything the certificate claims. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial,
  equal⟩

end Cert.Proof

end
